-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_nonneg [hPre_gate_nonneg : Cert.Pre_gate_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_gate_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_nonneg [hPre_gate_nonneg : Cert.Pre_gate_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_mm1_finite [hPre_mm1_finite : Cert.Pre_mm1_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_mm1_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_mm1_finite [hPre_mm1_finite : Cert.Pre_mm1_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_mm1_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_mm0_finite [hPre_mm0_finite : Cert.Pre_mm0_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_mm0_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_mm0_finite [hPre_mm0_finite : Cert.Pre_mm0_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_mm0_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_gate_nonneg [hKernelIdeal : Cert.KernelIdeal.Facts] [hPre_gate_nonneg : Cert.Pre_gate_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_gate_nonneg [hReferenceIdeal : Cert.ReferenceIdeal.Facts] [hPre_gate_nonneg : Cert.Pre_gate_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_mm1_finite [hKernel3Ideal : Cert.Kernel3Ideal.Facts] [hPre_mm1_finite : Cert.Pre_mm1_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_mm1_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_mm1_finite [hReference3Ideal : Cert.Reference3Ideal.Facts] [hPre_mm1_finite : Cert.Pre_mm1_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_mm1_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_mm0_finite [hKernel4Ideal : Cert.Kernel4Ideal.Facts] [hPre_mm0_finite : Cert.Pre_mm0_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_mm0_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_mm0_finite [hReference4Ideal : Cert.Reference4Ideal.Facts] [hPre_mm0_finite : Cert.Pre_mm0_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_mm0_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_gate_nonneg [hKernelIdeal : Cert.KernelIdeal.Facts] [hReferenceIdeal : Cert.ReferenceIdeal.Facts] [hPre_gate_nonneg : Cert.Pre_gate_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_mm1_finite [hKernel3Ideal : Cert.Kernel3Ideal.Facts] [hReference3Ideal : Cert.Reference3Ideal.Facts] [hPre_mm1_finite : Cert.Pre_mm1_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_mm1_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_mm0_finite [hKernel4Ideal : Cert.Kernel4Ideal.Facts] [hReference4Ideal : Cert.Reference4Ideal.Facts] [hPre_mm0_finite : Cert.Pre_mm0_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_mm0_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_gate_nonneg : Cert.Pre_gate_nonneg.Facts) (hPre_mm1_finite : Cert.Pre_mm1_finite.Facts) (hPre_mm0_finite : Cert.Pre_mm0_finite.Facts),
    quiescent_Kernel (hKernel := hKernel)
    ∧ quiescent_KernelIdeal (hKernelIdeal := hKernelIdeal)
    ∧ quiescent_KernelIdeal_pre_gate_nonneg (hKernelIdeal := hKernelIdeal) (hPre_gate_nonneg := hPre_gate_nonneg)
    ∧ quiescent_ReferenceIdeal (hReferenceIdeal := hReferenceIdeal)
    ∧ quiescent_ReferenceIdeal_pre_gate_nonneg (hReferenceIdeal := hReferenceIdeal) (hPre_gate_nonneg := hPre_gate_nonneg)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_mm1_finite (hKernel3Ideal := hKernel3Ideal) (hPre_mm1_finite := hPre_mm1_finite)
    ∧ quiescent_Reference3Ideal (hReference3Ideal := hReference3Ideal)
    ∧ quiescent_Reference3Ideal_pre_mm1_finite (hReference3Ideal := hReference3Ideal) (hPre_mm1_finite := hPre_mm1_finite)
    ∧ quiescent_Kernel4 (hKernel4 := hKernel4)
    ∧ quiescent_Kernel4Ideal (hKernel4Ideal := hKernel4Ideal)
    ∧ quiescent_Kernel4Ideal_pre_mm0_finite (hKernel4Ideal := hKernel4Ideal) (hPre_mm0_finite := hPre_mm0_finite)
    ∧ quiescent_Reference4Ideal (hReference4Ideal := hReference4Ideal)
    ∧ quiescent_Reference4Ideal_pre_mm0_finite (hReference4Ideal := hReference4Ideal) (hPre_mm0_finite := hPre_mm0_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_gate_nonneg (hKernelIdeal := hKernelIdeal) (hReferenceIdeal := hReferenceIdeal) (hPre_gate_nonneg := hPre_gate_nonneg)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_mm1_finite (hKernel3Ideal := hKernel3Ideal) (hReference3Ideal := hReference3Ideal) (hPre_mm1_finite := hPre_mm1_finite)
    ∧ preserves_Kernel4_Kernel4Ideal
    ∧ algebraic_Kernel4Ideal_Reference4Ideal_pre_mm0_finite (hKernel4Ideal := hKernel4Ideal) (hReference4Ideal := hReference4Ideal) (hPre_mm0_finite := hPre_mm0_finite)
    ∧ preserves_Kernel5_Kernel5Ideal
    ∧ algebraic_Kernel5Ideal_Reference5Ideal (hKernel5Ideal := hKernel5Ideal) (hReference5Ideal := hReference5Ideal)
-- ==== Pre_gate_nonneg.lean ====
abbrev S16384x1024 : Shape := ⟨2, ![16384, 1024]⟩
abbrev S16384x8 : Shape := ⟨2, ![16384, 8]⟩
abbrev S16x6144 : Shape := ⟨2, ![16, 6144]⟩
abbrev S8x1024x1408 : Shape := ⟨3, ![8, 1024, 1408]⟩
abbrev S8x1408x1024 : Shape := ⟨3, ![8, 1408, 1024]⟩
abbrev S1024 : Shape := ⟨1, ![1024]⟩
abbrev S_ : Shape := ⟨0, ![]⟩

class Facts : Prop where
  bcast_S_S16384x8 : S_.BroadcastsInDim S16384x8 (![] : Fin 0 → Fin S16384x8.rank)

variable [Facts]

def fn {F : FTy → Type} [FloatOps F] (main_arg0 : FVec F S16384x1024 .bf16) (main_arg1 : FVec F S16384x8 .f32) (main_arg2 : FVec F S16384x1024 .f32) (main_arg3 : FVec F S16x6144 .f32) (main_arg4 : FVec F S8x1024x1408 .f32) (main_arg5 : FVec F S8x1024x1408 .f32) (main_arg6 : FVec F S8x1408x1024 .f32) (main_arg7 : FVec F S1024 .f32) (main_arg8 : FVec F S1024 .f32) : IVec S16384x8 1 :=
  let main_cst : FVec F S_ .f32 := constant S_ .f32 0x00000000#32
  let main_v0 : FVec F S16384x8 .f32 := broadcastInDim S16384x8 ![] bcast_S_S16384x8 main_cst
  let main_v1 : IVec S16384x8 1 := cmpf .oge main_arg1 main_v0
  main_v1
-- ==== Pre_mm0_finite.lean ====
abbrev S16384x1024 : Shape := ⟨2, ![16384, 1024]⟩
abbrev S16x6144 : Shape := ⟨2, ![16, 6144]⟩
abbrev S1024x2848 : Shape := ⟨2, ![1024, 2848]⟩
abbrev S96x1024 : Shape := ⟨2, ![96, 1024]⟩
abbrev S2848x1024 : Shape := ⟨2, ![2848, 1024]⟩
abbrev S19328x1024 : Shape := ⟨2, ![19328, 1024]⟩
abbrev S_ : Shape := ⟨0, ![]⟩

class Facts : Prop where
  shapeCasts_S16x6144_S96x1024 : S16x6144.ShapeCasts S96x1024
  shapeCasts_S1024x2848_S2848x1024 : S1024x2848.ShapeCasts S2848x1024
  concatenates_S16384x1024_S96x1024_S2848x1024_S19328x1024_d0 : Shape.Concatenates [S16384x1024, S96x1024, S2848x1024] S19328x1024 0
  bcast_S_S19328x1024 : S_.BroadcastsInDim S19328x1024 (![] : Fin 0 → Fin S19328x1024.rank)

variable [Facts]

def fn {F : FTy → Type} [FloatOps F] (main_arg0 : FVec F S16384x1024 .f32) (main_arg1 : FVec F S16x6144 .f32) (main_arg2 : FVec F S1024x2848 .f32) : IVec S19328x1024 1 :=
  let main_v0 : FVec F S96x1024 .f32 := shapeCast S96x1024 main_arg1 shapeCasts_S16x6144_S96x1024
  let main_v1 : FVec F S2848x1024 .f32 := shapeCast S2848x1024 main_arg2 shapeCasts_S1024x2848_S2848x1024
  let main_v2 : FVec F S19328x1024 .f32 := concatenate S19328x1024 0 [⟨S16384x1024, main_arg0⟩, ⟨S96x1024, main_v0⟩, ⟨S2848x1024, main_v1⟩] concatenates_S16384x1024_S96x1024_S2848x1024_S19328x1024_d0
  let main_v3 : FVec F S19328x1024 .f32 := Host.absf main_v2
  let main_cst : FVec F S_ .f32 := constant S_ .f32 0x7F800000#32
  let main_v4 : FVec F S19328x1024 .f32 := broadcastInDim S19328x1024 ![] bcast_S_S19328x1024 main_cst
  let main_v5 : IVec S19328x1024 1 := cmpf .olt main_v3 main_v4
  main_v5
-- ==== Pre_mm1_finite.lean ====
abbrev S16384x1024 : Shape := ⟨2, ![16384, 1024]⟩
abbrev S16x6144 : Shape := ⟨2, ![16, 6144]⟩
abbrev S1024x5184 : Shape := ⟨2, ![1024, 5184]⟩
abbrev S96x1024 : Shape := ⟨2, ![96, 1024]⟩
abbrev S5184x1024 : Shape := ⟨2, ![5184, 1024]⟩
abbrev S21664x1024 : Shape := ⟨2, ![21664, 1024]⟩
abbrev S_ : Shape := ⟨0, ![]⟩

class Facts : Prop where
  shapeCasts_S16x6144_S96x1024 : S16x6144.ShapeCasts S96x1024
  shapeCasts_S1024x5184_S5184x1024 : S1024x5184.ShapeCasts S5184x1024
  concatenates_S16384x1024_S96x1024_S5184x1024_S21664x1024_d0 : Shape.Concatenates [S16384x1024, S96x1024, S5184x1024] S21664x1024 0
  bcast_S_S21664x1024 : S_.BroadcastsInDim S21664x1024 (![] : Fin 0 → Fin S21664x1024.rank)

variable [Facts]

def fn {F : FTy → Type} [FloatOps F] (main_arg0 : FVec F S16384x1024 .f32) (main_arg1 : FVec F S16x6144 .f32) (main_arg2 : FVec F S1024x5184 .f32) : IVec S21664x1024 1 :=
  let main_v0 : FVec F S96x1024 .f32 := shapeCast S96x1024 main_arg1 shapeCasts_S16x6144_S96x1024
  let main_v1 : FVec F S5184x1024 .f32 := shapeCast S5184x1024 main_arg2 shapeCasts_S1024x5184_S5184x1024
  let main_v2 : FVec F S21664x1024 .f32 := concatenate S21664x1024 0 [⟨S16384x1024, main_arg0⟩, ⟨S96x1024, main_v0⟩, ⟨S5184x1024, main_v1⟩] concatenates_S16384x1024_S96x1024_S5184x1024_S21664x1024_d0
  let main_v3 : FVec F S21664x1024 .f32 := Host.absf main_v2
  let main_cst : FVec F S_ .f32 := constant S_ .f32 0x7F800000#32
  let main_v4 : FVec F S21664x1024 .f32 := broadcastInDim S21664x1024 ![] bcast_S_S21664x1024 main_cst
  let main_v5 : IVec S21664x1024 1 := cmpf .olt main_v3 main_v4
  main_v5
-- ==== Kernel.lean ====
abbrev S16384x1024 : Shape := ⟨2, ![16384, 1024]⟩
abbrev S16384x8 : Shape := ⟨2, ![16384, 8]⟩
abbrev S16x6144 : Shape := ⟨2, ![16, 6144]⟩
abbrev S8x1024x1408 : Shape := ⟨3, ![8, 1024, 1408]⟩
abbrev S8x1408x1024 : Shape := ⟨3, ![8, 1408, 1024]⟩
abbrev S1024 : Shape := ⟨1, ![1024]⟩
abbrev S16x1x6144 : Shape := ⟨3, ![16, 1, 6144]⟩
abbrev S_ : Shape := ⟨0, ![]⟩
abbrev S16384x128 : Shape := ⟨2, ![16384, 128]⟩
abbrev S1024x1024 : Shape := ⟨2, ![1024, 1024]⟩
abbrev S1x1024 : Shape := ⟨2, ![1, 1024]⟩
abbrev S1x1024x1408 : Shape := ⟨3, ![1, 1024, 1408]⟩
abbrev S1x1408x1024 : Shape := ⟨3, ![1, 1408, 1024]⟩
abbrev S1024x128 : Shape := ⟨2, ![1024, 128]⟩
abbrev S1x1x1024 : Shape := ⟨3, ![1, 1, 1024]⟩
abbrev S128x1024 : Shape := ⟨2, ![128, 1024]⟩
abbrev S1024x1 : Shape := ⟨2, ![1024, 1]⟩
abbrev S1 : Shape := ⟨1, ![1]⟩
abbrev S1x1x1 : Shape := ⟨3, ![1, 1, 1]⟩
abbrev S256x1024 : Shape := ⟨2, ![256, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩
abbrev S1024x256 : Shape := ⟨2, ![1024, 256]⟩
abbrev S128 : Shape := ⟨1, ![128]⟩
abbrev S128x1 : Shape := ⟨2, ![128, 1]⟩
abbrev S128x1408 : Shape := ⟨2, ![128, 1408]⟩

abbrev nBuf : Space → Nat
  | .hbm => 31
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S16384x8, .f32⟩
  | .hbm, ⟨2, _⟩ => ⟨S16384x1024, .f32⟩
  | .hbm, ⟨3, _⟩ => ⟨S16x6144, .f32⟩
  | .hbm, ⟨4, _⟩ => ⟨S8x1024x1408, .f32⟩
  | .hbm, ⟨5, _⟩ => ⟨S8x1024x1408, .f32⟩
  | .hbm, ⟨6, _⟩ => ⟨S8x1408x1024, .f32⟩
  | .hbm, ⟨7, _⟩ => ⟨S1024, .f32⟩
  | .hbm, ⟨8, _⟩ => ⟨S1024, .f32⟩
  | .hbm, ⟨9, _⟩ => ⟨S16x1x6144, .f32⟩
  | .hbm, ⟨10, _⟩ => ⟨S_, .i32⟩
  | .hbm, ⟨11, _⟩ => ⟨S_, .f32⟩
  | .hbm, ⟨12, _⟩ => ⟨S16384x128, .f32⟩
  | .hbm, ⟨13, _⟩ => ⟨S8x1024x1408, .bf16⟩
  | .hbm, ⟨14, _⟩ => ⟨S8x1024x1408, .bf16⟩
  | .hbm, ⟨15, _⟩ => ⟨S8x1408x1024, .bf16⟩
  | .hbm, ⟨16, _⟩ => ⟨S_, .f32⟩
  | .hbm, ⟨17, _⟩ => ⟨S1024x1024, .f32⟩
  | .hbm, ⟨18, _⟩ => ⟨S1024x1024, .i32⟩
  | .hbm, ⟨19, _⟩ => ⟨S_, .i32⟩
  | .hbm, ⟨20, _⟩ => ⟨S1024x1024, .i32⟩
  | .hbm, ⟨21, _⟩ => ⟨S1024x1024, .i32⟩
  | .hbm, ⟨22, _⟩ => ⟨S1024x1024, .i32⟩
  | .hbm, ⟨23, _⟩ => ⟨S1024x1024, .i1⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x128, .f32⟩
  | .local _ .vmem, ⟨20, _⟩ => ⟨S128x1024, .f32⟩
  | .local _ .vmem, ⟨21, _⟩ => ⟨S128x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_cst : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 8], ![false, false]⟩

def k0_off1 (i : grid0.Coords) : Fin 2 → Nat :=
  let arg1 : BitVec 32 := BitVec.ofNat 32 (i 1).val
  let v11 : Index := Scalar.indexCast arg1
  let c0_3 : Index := 0#32
  ![v11.toNat, 0]
@[reducible] def k0_t1_loop (v23 : BitVec 32) : Scf.Loop 32 :=
  let c0_i32_20 : BitVec 32 := 0#32
  let c0_i32_10 : BitVec 32 := 0#32
  let v26 : BitVec 1 := Scalar.cmpi .sgt v23 c0_i32_10
  let v27 : BitVec 32 := Scalar.extui v26
  let c0_i32_11 : BitVec 32 := 0#32
  let v28 : BitVec 1 := Scalar.cmpi .slt v23 c0_i32_11
  let v29 : BitVec 32 := Scalar.extui v28
  let v30 : BitVec 32 := Scalar.subi v27 v29
  let c256_i32 : BitVec 32 := 256#32
  let c0_i32_12 : BitVec 32 := 0#32
  let v31 : BitVec 1 := Scalar.cmpi .sgt c256_i32 c0_i32_12
  let v32 : BitVec 32 := Scalar.extui v31
  let c0_i32_13 : BitVec 32 := 0#32
  let v33 : BitVec 1 := Scalar.cmpi .slt c256_i32 c0_i32_13
  let v34 : BitVec 32 := Scalar.extui v33
  let v35 : BitVec 32 := Scalar.subi v32 v34
  let v36 : BitVec 1 := Scalar.cmpi .ne v30 v35
  let v37 : BitVec 32 := Scalar.remsi v23 c256_i32
  let c0_i32_14 : BitVec 32 := 0#32
  let v38 : BitVec 1 := Scalar.cmpi .ne v37 c0_i32_14
  let v39 : BitVec 1 := Scalar.andi v36 v38
  let v25 : BitVec 32 := Scalar.divsi v23 c256_i32
  let c1_i32_15 : BitVec 32 := 1#32
  let v40 : BitVec 32 := Scalar.subi v25 c1_i32_15
  let v41 : BitVec 32 := Scalar.select v39 v40 v25
  let c256_i32_16 : BitVec 32 := 256#32
  let v42 : BitVec 32 := Scalar.muli v41 c256_i32_16
  let v43 : BitVec 32 := Scalar.subi v23 v42
  let c128_i32 : BitVec 32 := 128#32
  let v44 : BitVec 1 := Scalar.cmpi .sgt v43 c128_i32
  let c1_i32_17 : BitVec 32 := 1#32
  let c0_i32_18 : BitVec 32 := 0#32
  let v45 : BitVec 32 := Scalar.select v44 c1_i32_17 c0_i32_18
  let v46 : BitVec 32 := Scalar.addi v41 v45
  let v47 : BitVec 32 := Scalar.subi v46 c0_i32_20
  let c1_i32_21 : BitVec 32 := 1#32
  let v49 : BitVec 32 := Scalar.divsi v47 c1_i32_21
  let v50 : BitVec 32 := Scalar.muli v49 c1_i32_21
  let v51 : BitVec 32 := Scalar.addi c0_i32_20 v50
  let c1_i32_22 : BitVec 32 := 1#32
  ⟨c0_i32_20, v51, c1_i32_22⟩

@[reducible] def k0_t2_loop (v23 : BitVec 32) : Scf.Loop 32 :=
  let c0_i32_20 : BitVec 32 := 0#32
  let c0_i32_10 : BitVec 32 := 0#32
  let v26 : BitVec 1 := Scalar.cmpi .sgt v23 c0_i32_10
  let v27 : BitVec 32 := Scalar.extui v26
  let c0_i32_11 : BitVec 32 := 0#32
  let v28 : BitVec 1 := Scalar.cmpi .slt v23 c0_i32_11
  let v29 : BitVec 32 := Scalar.extui v28
  let v30 : BitVec 32 := Scalar.subi v27 v29
  let c256_i32 : BitVec 32 := 256#32
  let c0_i32_12 : BitVec 32 := 0#32
  let v31 : BitVec 1 := Scalar.cmpi .sgt c256_i32 c0_i32_12
  let v32 : BitVec 32 := Scalar.extui v31
  let c0_i32_13 : BitVec 32 := 0#32
  let v33 : BitVec 1 := Scalar.cmpi .slt c256_i32 c0_i32_13
  let v34 : BitVec 32 := Scalar.extui v33
  let v35 : BitVec 32 := Scalar.subi v32 v34
  let v36 : BitVec 1 := Scalar.cmpi .ne v30 v35
  let v37 : BitVec 32 := Scalar.remsi v23 c256_i32
  let c0_i32_14 : BitVec 32 := 0#32
  let v38 : BitVec 1 := Scalar.cmpi .ne v37 c0_i32_14
  let v39 : BitVec 1 := Scalar.andi v36 v38
  let v25 : BitVec 32 := Scalar.divsi v23 c256_i32
  let c1_i32_15 : BitVec 32 := 1#32
  let v40 : BitVec 32 := Scalar.subi v25 c1_i32_15
  let v41 : BitVec 32 := Scalar.select v39 v40 v25
  let c256_i32_16 : BitVec 32 := 256#32
  let v42 : BitVec 32 := Scalar.muli v41 c256_i32_16
  let v43 : BitVec 32 := Scalar.subi v23 v42
  let c128_i32 : BitVec 32 := 128#32
  let v44 : BitVec 1 := Scalar.cmpi .sgt v43 c128_i32
  let c1_i32_17 : BitVec 32 := 1#32
  let c0_i32_18 : BitVec 32 := 0#32
  let v45 : BitVec 32 := Scalar.select v44 c1_i32_17 c0_i32_18
  let v46 : BitVec 32 := Scalar.addi v41 v45
  let v47 : BitVec 32 := Scalar.subi v46 c0_i32_20
  let c1_i32_21 : BitVec 32 := 1#32
  let v49 : BitVec 32 := Scalar.divsi v47 c1_i32_21
  let v50 : BitVec 32 := Scalar.muli v49 c1_i32_21
  let v51 : BitVec 32 := Scalar.addi c0_i32_20 v50
  let v48 : BitVec 32 := Scalar.addi c0_i32_20 v47
  let c1_i32_23 : BitVec 32 := 1#32
  ⟨v51, v48, c1_i32_23⟩

def k0_chk1 (v23 : BitVec 32) : Prop :=
  ((k0_t1_loop v23).OK) ∧
  ((k0_t2_loop v23).OK)
theorem k0_t1_ok : ∀ (v23 : BitVec 32) (k0_hw1 : k0_chk1 v23), (k0_t1_loop v23).OK := fun v23 k0_hw1 => k0_hw1.1
theorem k0_t2_ok : ∀ (v23 : BitVec 32) (k0_hw1 : k0_chk1 v23), (k0_t2_loop v23).OK := fun v23 k0_hw1 => k0_hw1.2

def k0_cond3 (i : grid0.Coords) : BitVec 1 :=
  let arg1 : BitVec 32 := BitVec.ofNat 32 (i 1).val
  let c7_i32 : BitVec 32 := 7#32
  let v57 : BitVec 1 := Scalar.cmpi .eq arg1 c7_i32
  let v58 : BitVec 32 := Scalar.extui v57
  let c0_i32_27 : BitVec 32 := 0#32
  let v59 : BitVec 1 := Scalar.cmpi .ne v58 c0_i32_27
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c5_i32 : BitVec 32 := 5#32
  let c0_i32_6 : BitVec 32 := 0#32
  ![v18.toNat, c0_i32_5.toNat, c5_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S16384x1024 : Shape := ⟨2, ![16384, 1024]⟩
abbrev S16384x8 : Shape := ⟨2, ![16384, 8]⟩
abbrev S16x6144 : Shape := ⟨2, ![16, 6144]⟩
abbrev S8x1024x1408 : Shape := ⟨3, ![8, 1024, 1408]⟩
abbrev S8x1408x1024 : Shape := ⟨3, ![8, 1408, 1024]⟩
abbrev S1024 : Shape := ⟨1, ![1024]⟩
abbrev S16384x8x1408 : Shape := ⟨3, ![16384, 8, 1408]⟩
abbrev S_ : Shape := ⟨0, ![]⟩
abbrev S8x16384x1024 : Shape := ⟨3, ![8, 16384, 1024]⟩
abbrev S8x16384 : Shape := ⟨2, ![8, 16384]⟩
abbrev S8x16384x1 : Shape := ⟨3, ![8, 16384, 1]⟩
abbrev S8x2048x1024 : Shape := ⟨3, ![8, 2048, 1024]⟩
abbrev S8x1024 : Shape := ⟨2, ![8, 1024]⟩
abbrev S8x1x1024 : Shape := ⟨3, ![8, 1, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x8, .f32⟩
  | .hbm, ⟨2, _⟩ => ⟨S16384x1024, .f32⟩
  | .hbm, ⟨3, _⟩ => ⟨S16x6144, .f32⟩
  | .hbm, ⟨4, _⟩ => ⟨S8x1024x1408, .f32⟩
  | .hbm, ⟨5, _⟩ => ⟨S8x1024x1408, .f32⟩
  | .hbm, ⟨6, _⟩ => ⟨S8x1408x1024, .f32⟩
  | .hbm, ⟨7, _⟩ => ⟨S1024, .f32⟩
  | .hbm, ⟨8, _⟩ => ⟨S1024, .f32⟩
  | .hbm, ⟨9, _⟩ => ⟨S16384x1024, .f32⟩
  | .hbm, ⟨10, _⟩ => ⟨S16384x8x1408, .f32⟩
  | .hbm, ⟨11, _⟩ => ⟨S16384x8x1408, .f32⟩
  | .hbm, ⟨12, _⟩ => ⟨S16384x8x1408, .f32⟩
  | .hbm, ⟨13, _⟩ => ⟨S_, .f32⟩
  | .hbm, ⟨14, _⟩ => ⟨S16384x8x1408, .f32⟩
  | .hbm, ⟨15, _⟩ => ⟨S16384x8x1408, .f32⟩
  | .hbm, ⟨16, _⟩ => ⟨S_, .f32⟩
  | .hbm, ⟨17, _⟩ => ⟨S16384x8x1408, .f32⟩
  | .hbm, ⟨18, _⟩ => ⟨S16384x8x1408, .f32⟩
  | .hbm, ⟨19, _⟩ => ⟨S16384x8x1408, .f32⟩
  | .hbm, ⟨20, _⟩ => ⟨S16384x8x1408, .f32⟩
  | .hbm, ⟨21, _⟩ => ⟨S16384x8x1408, .f32⟩
  | .hbm, ⟨22, _⟩ => ⟨S8x16384x1024, .f32⟩
  | .hbm, ⟨23, _⟩ => ⟨S8x16384, .f32⟩
  | .hbm, ⟨24, _⟩ => ⟨S8x16384x1, .f32⟩
  | .hbm, ⟨25, _⟩ => ⟨S8x16384x1024, .f32⟩
  | .hbm, ⟨26, _⟩ => ⟨S8x16384x1024, .f32⟩
  | .hbm, ⟨27, _⟩ => ⟨S_, .f32⟩
  | .hbm, ⟨28, _⟩ => ⟨S16384x1024, .f32⟩
  | .hbm, ⟨29, _⟩ => ⟨S8x2048x1024, .f32⟩
  | .hbm, ⟨30, _⟩ => ⟨S8x1024, .f32⟩
  | .hbm, ⟨31, _⟩ => ⟨S8x1x1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x2048x1, .f32⟩
  | .hbm, ⟨58, _⟩ => ⟨S8x2048x1, .f32⟩
  | .hbm, ⟨59, _⟩ => ⟨S8x2048x1, .f32⟩
  | .hbm, ⟨60, _⟩ => ⟨S8x2048x1024, .f32⟩
  | .hbm, ⟨61, _⟩ => ⟨S8x2048x1024, .f32⟩
  | .hbm, ⟨62, _⟩ => ⟨S1x1x1024, .f32⟩
  | .hbm, ⟨63, _⟩ => ⟨S8x2048x1024, .f32⟩
  | .hbm, ⟨64, _⟩ => ⟨S8x2048x1024, .f32⟩
  | .hbm, ⟨65, _⟩ => ⟨S1x1x1024, .f32⟩
  | .hbm, ⟨66, _⟩ => ⟨S8x2048x1024, .f32⟩
  | .hbm, ⟨67, _⟩ => ⟨S8x2048x1024, .f32⟩
  | .hbm, ⟨68, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Kernel2.lean ====
abbrev S16384x1024 : Shape := ⟨2, ![16384, 1024]⟩
abbrev S16x6144 : Shape := ⟨2, ![16, 6144]⟩
abbrev S1024x2816 : Shape := ⟨2, ![1024, 2816]⟩
abbrev S2816x1024 : Shape := ⟨2, ![2816, 1024]⟩
abbrev S1024 : Shape := ⟨1, ![1024]⟩
abbrev S16x1x6144 : Shape := ⟨3, ![16, 1, 6144]⟩
abbrev S1x1024 : Shape := ⟨2, ![1, 1024]⟩
abbrev S512x1024 : Shape := ⟨2, ![512, 1024]⟩
abbrev S1x1x1024 : Shape := ⟨3, ![1, 1, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S16x1x6144, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c5_i32 : BitVec 32 := 5#32
  let c0_i32_6 : BitVec 32 := 0#32
  ![v18.toNat, c0_i32_5.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S16x6144 : Shape := ⟨2, ![16, 6144]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S8x2048x1024 : Shape := ⟨3, ![8, 2048, 1024]⟩
abbrev S8x1024 : Shape := ⟨2, ![8, 1024]⟩
abbrev S8x1x1024 : Shape := ⟨3, ![8, 1, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S16384x1024, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S8x2048x1024, .f32⟩
  | .hbm, ⟨23, _⟩ => ⟨S8x1024, .f32⟩
  | .hbm, ⟨24, _⟩ => ⟨S8x1x1024, .f32⟩
  | .hbm, ⟨25, _⟩ => ⟨S8x2048x1024, .f32⟩
  | .hbm, ⟨26, _⟩ => ⟨S_, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Kernel3.lean ====
abbrev S16384x1024 : Shape := ⟨2, ![16384, 1024]⟩
abbrev S16x6144 : Shape := ⟨2, ![16, 6144]⟩
abbrev S1024x5184 : Shape := ⟨2, ![1024, 5184]⟩
abbrev S16x1x6144 : Shape := ⟨3, ![16, 1, 6144]⟩
abbrev S1024x5120 : Shape := ⟨2, ![1024, 5120]⟩
abbrev S1024x64 : Shape := ⟨2, ![1024, 64]⟩
abbrev S_ : Shape := ⟨0, ![]⟩
abbrev S1024x128 : Shape := ⟨2, ![1024, 128]⟩
abbrev S1024x256 : Shape := ⟨2, ![1024, 256]⟩
abbrev S16384x5120 : Shape := ⟨2, ![16384, 5120]⟩
abbrev S16384x128 : Shape := ⟨2, ![16384, 128]⟩
abbrev S512x1024 : Shape := ⟨2, ![512, 1024]⟩
abbrev S1x1x1024 : Shape := ⟨3, ![1, 1, 1024]⟩
abbrev S512x5120 : Shape := ⟨2, ![512, 5120]⟩
abbrev S512x128 : Shape := ⟨2, ![512, 128]⟩
abbrev S1x1024 : Shape := ⟨2, ![1, 1024]⟩
abbrev S512x256 : Shape := ⟨2, ![512, 256]⟩
abbrev S1024x1280 : Shape := ⟨2, ![1024, 1280]⟩
abbrev S512x1280 : Shape := ⟨2, ![512, 1280]⟩

abbrev nBuf : Space → Nat
  | .hbm => 17
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16x6144, .f32⟩
  | .hbm, ⟨2, _⟩ => ⟨S1024x5184, .f32⟩
  | .hbm, ⟨3, _⟩ => ⟨S16x1x6144, .f32⟩
  | .hbm, ⟨4, _⟩ => ⟨S1024x5120, .f32⟩
  | .hbm, ⟨5, _⟩ => ⟨S1024x5120, .bf16⟩
  | .hbm, ⟨6, _⟩ => ⟨S1024x64, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S1024x128, .f32⟩
  | .hbm, ⟨12, _⟩ => ⟨S1024x128, .f32⟩
  | .hbm, ⟨13, _⟩ => ⟨S1024x128, .bf16⟩
  | .hbm, ⟨14, _⟩ => ⟨S1024x256, .bf16⟩
  | .hbm, ⟨15, _⟩ => ⟨S16384x5120, .bf16⟩
  | .hbm, ⟨16, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x5120, .bf16⟩
  | .local _ .vmem, ⟨7, _⟩ => ⟨S1024x256, .bf16⟩
  | .local _ .vmem, ⟨8, _⟩ => ⟨S512x5120, .bf16⟩
  | .local _ .vmem, ⟨9, _⟩ => ⟨S512x5120, .bf16⟩
  | .local _ .vmem, ⟨10, _⟩ => ⟨S512x128, .f32⟩
  | .local _ .vmem, ⟨11, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c1_i32_6 : BitVec 32 := 1#32
  let c0_i32_7 : BitVec 32 := 0#32
  ![v18.toNat, c0_i32_5.toNat, c1_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S16x6144 : Shape := ⟨2, ![16, 6144]⟩
abbrev S1024x5184 : Shape := ⟨2, ![1024, 5184]⟩
abbrev S8x1024 : Shape := ⟨2, ![8, 1024]⟩
abbrev S8x1x1024 : Shape := ⟨3, ![8, 1, 1024]⟩
abbrev S8x2048x1024 : Shape := ⟨3, ![8, 2048, 1024]⟩
abbrev S_ : Shape := ⟨0, ![]⟩
abbrev S16384x5184 : Shape := ⟨2, ![16384, 5184]⟩
abbrev S16384x5120 : Shape := ⟨2, ![16384, 5120]⟩
abbrev S16384x64 : Shape := ⟨2, ![16384, 64]⟩
abbrev S16384x128 : Shape := ⟨2, ![16384, 128]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x6144, .f32⟩
  | .hbm, ⟨2, _⟩ => ⟨S1024x5184, .f32⟩
  | .hbm, ⟨3, _⟩ => ⟨S8x1024, .f32⟩
  | .hbm, ⟨4, _⟩ => ⟨S8x1x1024, .f32⟩
  | .hbm, ⟨5, _⟩ => ⟨S8x1024, .f32⟩
  | .hbm, ⟨6, _⟩ => ⟨S8x1x1024, .f32⟩
  | .hbm, ⟨7, _⟩ => ⟨S8x2048x1024, .f32⟩
  | .hbm, ⟨8, _⟩ => ⟨S_, .f32⟩
  | .hbm, ⟨9, _⟩ => ⟨S8x1x1024, .f32⟩
  | .hbm, ⟨10, _⟩ => ⟨S8x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S16384x1024, .f32⟩
  | .hbm, ⟨16, _⟩ => ⟨S16384x5184, .f32⟩
  | .hbm, ⟨17, _⟩ => ⟨S16384x5120, .f32⟩
  | .hbm, ⟨18, _⟩ => ⟨S16384x5120, .bf16⟩
  | .hbm, ⟨19, _⟩ => ⟨S16384x64, .f32⟩
  | .hbm, ⟨20, _⟩ => ⟨S_, .i32⟩
  | .hbm, ⟨21, _⟩ => ⟨S_, .f32⟩
  | .hbm, ⟨22, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S16384x1024 : Shape := ⟨2, ![16384, 1024]⟩
abbrev S16x6144 : Shape := ⟨2, ![16, 6144]⟩
abbrev S1024x2848 : Shape := ⟨2, ![1024, 2848]⟩
abbrev S16x1x6144 : Shape := ⟨3, ![16, 1, 6144]⟩
abbrev S1024x2048 : Shape := ⟨2, ![1024, 2048]⟩
abbrev S1024x768 : Shape := ⟨2, ![1024, 768]⟩
abbrev S1024x2816 : Shape := ⟨2, ![1024, 2816]⟩
abbrev S1024x32 : Shape := ⟨2, ![1024, 32]⟩
abbrev S_ : Shape := ⟨0, ![]⟩
abbrev S1024x128 : Shape := ⟨2, ![1024, 128]⟩
abbrev S1024x256 : Shape := ⟨2, ![1024, 256]⟩
abbrev S16384x2816 : Shape := ⟨2, ![16384, 2816]⟩
abbrev S16384x128 : Shape := ⟨2, ![16384, 128]⟩
abbrev S512x1024 : Shape := ⟨2, ![512, 1024]⟩
abbrev S1x1x1024 : Shape := ⟨3, ![1, 1, 1024]⟩
abbrev S512x2816 : Shape := ⟨2, ![512, 2816]⟩
abbrev S512x128 : Shape := ⟨2, ![512, 128]⟩
abbrev S1x1024 : Shape := ⟨2, ![1, 1024]⟩
abbrev S512x256 : Shape := ⟨2, ![512, 256]⟩
abbrev S1024x1408 : Shape := ⟨2, ![1024, 1408]⟩
abbrev S512x1408 : Shape := ⟨2, ![512, 1408]⟩

abbrev nBuf : Space → Nat
  | .hbm => 19
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16x6144, .f32⟩
  | .hbm, ⟨2, _⟩ => ⟨S1024x2848, .f32⟩
  | .hbm, ⟨3, _⟩ => ⟨S16x1x6144, .f32⟩
  | .hbm, ⟨4, _⟩ => ⟨S1024x2048, .f32⟩
  | .hbm, ⟨5, _⟩ => ⟨S1024x768, .f32⟩
  | .hbm, ⟨6, _⟩ => ⟨S1024x2816, .f32⟩
  | .hbm, ⟨7, _⟩ => ⟨S1024x2816, .bf16⟩
  | .hbm, ⟨8, _⟩ => ⟨S1024x32, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x128, .f32⟩
  | .hbm, ⟨14, _⟩ => ⟨S1024x128, .f32⟩
  | .hbm, ⟨15, _⟩ => ⟨S1024x128, .bf16⟩
  | .hbm, ⟨16, _⟩ => ⟨S1024x256, .bf16⟩
  | .hbm, ⟨17, _⟩ => ⟨S16384x2816, .bf16⟩
  | .hbm, ⟨18, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2816, .bf16⟩
  | .local _ .vmem, ⟨7, _⟩ => ⟨S1024x256, .bf16⟩
  | .local _ .vmem, ⟨8, _⟩ => ⟨S512x2816, .bf16⟩
  | .local _ .vmem, ⟨9, _⟩ => ⟨S512x2816, .bf16⟩
  | .local _ .vmem, ⟨10, _⟩ => ⟨S512x128, .f32⟩
  | .local _ .vmem, ⟨11, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c1_i32_6 : BitVec 32 := 1#32
  let c0_i32_7 : BitVec 32 := 0#32
  ![v18.toNat, c0_i32_5.toNat, c1_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x1024 : Shape := ⟨2, ![16384, 1024]⟩
abbrev S16x6144 : Shape := ⟨2, ![16, 6144]⟩
abbrev S1024x2848 : Shape := ⟨2, ![1024, 2848]⟩
abbrev S8x1024 : Shape := ⟨2, ![8, 1024]⟩
abbrev S8x1x1024 : Shape := ⟨3, ![8, 1, 1024]⟩
abbrev S8x2048x1024 : Shape := ⟨3, ![8, 2048, 1024]⟩
abbrev S_ : Shape := ⟨0, ![]⟩
abbrev S16384x2848 : Shape := ⟨2, ![16384, 2848]⟩
abbrev S16384x2048 : Shape := ⟨2, ![16384, 2048]⟩
abbrev S16384x768 : Shape := ⟨2, ![16384, 768]⟩
abbrev S16384x2816 : Shape := ⟨2, ![16384, 2816]⟩
abbrev S16384x32 : Shape := ⟨2, ![16384, 32]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x6144, .f32⟩
  | .hbm, ⟨2, _⟩ => ⟨S1024x2848, .f32⟩
  | .hbm, ⟨3, _⟩ => ⟨S8x1024, .f32⟩
  | .hbm, ⟨4, _⟩ => ⟨S8x1x1024, .f32⟩
  | .hbm, ⟨5, _⟩ => ⟨S8x1024, .f32⟩
  | .hbm, ⟨6, _⟩ => ⟨S8x1x1024, .f32⟩
  | .hbm, ⟨7, _⟩ => ⟨S8x2048x1024, .f32⟩
  | .hbm, ⟨8, _⟩ => ⟨S_, .f32⟩
  | .hbm, ⟨9, _⟩ => ⟨S8x1x1024, .f32⟩
  | .hbm, ⟨10, _⟩ => ⟨S8x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S16384x1024, .f32⟩
  | .hbm, ⟨16, _⟩ => ⟨S16384x2848, .f32⟩
  | .hbm, ⟨17, _⟩ => ⟨S16384x2048, .f32⟩
  | .hbm, ⟨18, _⟩ => ⟨S16384x768, .f32⟩
  | .hbm, ⟨19, _⟩ => ⟨S16384x2816, .f32⟩
  | .hbm, ⟨20, _⟩ => ⟨S16384x2816, .bf16⟩
  | .hbm, ⟨21, _⟩ => ⟨S16384x32, .f32⟩
  | .hbm, ⟨22, _⟩ => ⟨S_, .i32⟩
  | .hbm, ⟨23, _⟩ => ⟨S_, .f32⟩
  | .hbm, ⟨24, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_call0_v0 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel5.lean ====
abbrev S16384x512 : Shape := ⟨2, ![16384, 512]⟩
abbrev S16384x1024 : Shape := ⟨2, ![16384, 1024]⟩
abbrev S16x6144 : Shape := ⟨2, ![16, 6144]⟩
abbrev S1024x1024 : Shape := ⟨2, ![1024, 1024]⟩
abbrev S1024 : Shape := ⟨1, ![1024]⟩
abbrev S16x1x6144 : Shape := ⟨3, ![16, 1, 6144]⟩
abbrev S512x1024 : Shape := ⟨2, ![512, 1024]⟩
abbrev S1x1024 : Shape := ⟨2, ![1, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 16
  | .vmem => 20
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S16x6144, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S16x1x6144, .f32⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x1024, .bf16⟩
  | .hbm, ⟨12, _⟩ => ⟨S1x1024, .f32⟩
  | .hbm, ⟨13, _⟩ => ⟨S1x1024, .f32⟩
  | .hbm, ⟨14, _⟩ => ⟨S16384x1024, .f32⟩
  | .hbm, ⟨15, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c2_i32 : BitVec 32 := 2#32
  let c0_i32_6 : BitVec 32 := 0#32
  ![v18.toNat, c0_i32_5.toNat, c2_i32.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c3_i32 : BitVec 32 := 3#32
  let c0_i32_6 : BitVec 32 := 0#32
  ![v18.toNat, c0_i32_5.toNat, c3_i32.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c4_i32 : BitVec 32 := 4#32
  let c0_i32_6 : BitVec 32 := 0#32
  ![v18.toNat, c0_i32_5.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S16384x512 : Shape := ⟨2, ![16384, 512]⟩
abbrev S16384x1024 : Shape := ⟨2, ![16384, 1024]⟩
abbrev S16x6144 : Shape := ⟨2, ![16, 6144]⟩
abbrev S1024x1024 : Shape := ⟨2, ![1024, 1024]⟩
abbrev S1024 : Shape := ⟨1, ![1024]⟩
abbrev S8x1024 : Shape := ⟨2, ![8, 1024]⟩
abbrev S8x1x1024 : Shape := ⟨3, ![8, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S16x6144, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S8x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x1024, .f32⟩
  | .hbm, ⟨12, _⟩ => ⟨S8x1x1024, .f32⟩
  | .hbm, ⟨13, _⟩ => ⟨S16384x1024, .bf16⟩
  | .hbm, ⟨14, _⟩ => ⟨S16384x1024, .f32⟩
  | .hbm, ⟨15, _⟩ => ⟨S16384x1024, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S8x2048x1024, .f32⟩
  | .hbm, ⟨46, _⟩ => ⟨S8x2048x1024, .f32⟩
  | .hbm, ⟨47, _⟩ => ⟨S1x1x1024, .f32⟩
  | .hbm, ⟨48, _⟩ => ⟨S8x2048x1024, .f32⟩
  | .hbm, ⟨49, _⟩ => ⟨S8x2048x1024, .f32⟩
  | .hbm, ⟨50, _⟩ => ⟨S1x1x1024, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x1x1024, .f32⟩
  | .hbm, ⟨55, _⟩ => ⟨S8x1x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S16384x1024, .f32⟩
  | .hbm, ⟨61, _⟩ => ⟨S16384x1024, .f32⟩
  | .hbm, ⟨62, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Proof.MoeBase.lean ====
/- Reading and writing a whole buffer at once. -/
module

public import Idealize.ShloMosaic.Lib.WholeRead
public import Idealize.ShloMosaic.Lib.WritesUnit
public import Idealize.ShloMosaic.Lib.Pipeline.Value

@[expose] public section

namespace Cert.Whole

open Idealize.ShloMosaic

variable {sig : RefSig} {Val : EltTy → Type} {κ : Kind} {sp : Space} {S : Shape} {e : EltTy}

/-- What a buffer reads after a store over all of it, the last of several. -/
theorem read_store (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  exact View.read_writes_cons_unit_of_mem v f inb w L y y rfl (fun a => by simp)

/-- What a load of a whole buffer gives. -/
theorem read_load {m : Memref sig κ sp S e} (hm : m.IsWhole) (X : S.Idx → Val e) {off : Fin S.rank → ℕ}
    (h : off = fun _ => 0) (inb : ∀ a, off a + S.size a ≤ S.size a) :
    View.readAt Val m.view (Rect.unit off S.size inb).toLoadRect (hm.unread X) = X := by
  funext y
  rw [hm.readAt_unread]
  exact congrFun (View.ld_unit_zero h inb X) y

/-- What a load of a part of a buffer gives. -/
theorem read_part {m : Memref sig κ sp S e} (hm : m.IsWhole) (X : S.Idx → Val e) (B : LoadRect S) :
    View.readAt Val m.view B (hm.unread X) = fun y => X (B.idx y) := by
  funext y
  rw [hm.readAt_unread]

theorem z2 : (![0, 0] : Fin 2 → ℕ) = fun _ => 0 := by funext a; fin_cases a <;> rfl

theorem z3 : (![0, 0, 0] : Fin 3 → ℕ) = fun _ => 0 := by funext a; fin_cases a <;> rfl

end Cert.Whole
end
-- ==== Proof.MoeCount.lean ====
/- The number of rows an expert serves, and the passes that number asks for. -/
module

public import proofs.«01_k».proof.Proof.Gen.KernelIdeal.Skeleton
public import Idealize.ShloMosaic.Lib.WordSum
public import Idealize.ShloMosaic.Lib.ValueIdx
public import Idealize.ShloMosaic.Lib.Pointwise

@[expose] public section

set_option maxRecDepth 16384

noncomputable section

namespace Cert.KernelIdeal.Moe

open Idealize.ShloMosaic Idealize.ShloMosaic.TcCoe
open Cert.KernelIdeal.Gen

variable {F : FTy → Type} [FloatOps F]

/-- The number of rows whose rank is at least zero. -/
def cnt (v12 : Vec F S1x1024 .f32) : BitVec 32 := extractAt ![0, 0, 0] (k0_pay18 v12) inpos_S1x1x1_p0_0_0

/-- The full passes. -/
def nfull (v23 : BitVec 32) : BitVec 32 :=
  let v25 := Scalar.divsi v23 256#32
  let v30 := Scalar.subi (Scalar.extui (Scalar.cmpi .sgt v23 0#32) : BitVec 32) (Scalar.extui (Scalar.cmpi .slt v23 0#32) : BitVec 32)
  let v35 := Scalar.subi (Scalar.extui (Scalar.cmpi .sgt 256#32 0#32) : BitVec 32) (Scalar.extui (Scalar.cmpi .slt 256#32 0#32) : BitVec 32)
  let v41 := Scalar.select (Scalar.andi (Scalar.cmpi .ne v30 v35) (Scalar.cmpi .ne (Scalar.remsi v23 256#32) 0#32)) (Scalar.subi v25 1#32) v25
  let v43 := Scalar.subi v23 (Scalar.muli v41 256#32)
  Scalar.addi v41 (Scalar.select (Scalar.cmpi .sgt v43 128#32) 1#32 0#32)

/-- Whether a half pass follows them. -/
def half (v23 : BitVec 32) : BitVec 1 :=
  let v25 := Scalar.divsi v23 256#32
  let v30 := Scalar.subi (Scalar.extui (Scalar.cmpi .sgt v23 0#32) : BitVec 32) (Scalar.extui (Scalar.cmpi .slt v23 0#32) : BitVec 32)
  let v35 := Scalar.subi (Scalar.extui (Scalar.cmpi .sgt 256#32 0#32) : BitVec 32) (Scalar.extui (Scalar.cmpi .slt 256#32 0#32) : BitVec 32)
  let v41 := Scalar.select (Scalar.andi (Scalar.cmpi .ne v30 v35) (Scalar.cmpi .ne (Scalar.remsi v23 256#32) 0#32)) (Scalar.subi v25 1#32) v25
  let v43 := Scalar.subi v23 (Scalar.muli v41 256#32)
  Scalar.cmpi .ne (Scalar.extui (Scalar.andi (Scalar.cmpi .sgt v43 0#32) (Scalar.cmpi .sle v43 128#32)) : BitVec 32) 0#32

theorem facts : ∀ n : Fin 1025, k0_chk1 (BitVec.ofNat 32 n.val) ∧
    (k0_t1_loop (BitVec.ofNat 32 n.val)).trips = n.val / 256 + (if 128 < n.val % 256 then 1 else 0) ∧
    (k0_t2_loop (BitVec.ofNat 32 n.val)).trips = 0 ∧
    nfull (BitVec.ofNat 32 n.val) = BitVec.ofNat 32 (n.val / 256 + (if 128 < n.val % 256 then 1 else 0)) ∧
    (half (BitVec.ofNat 32 n.val) = 1#1 ↔ (0 < n.val % 256 ∧ n.val % 256 ≤ 128)) := by
  decide +kernel

/-- A row the expert serves: its rank is at least zero. -/
def served (v12 : Vec F S1x1024 .f32) (y : S1x1024.Idx) : Prop := FloatOps.cmpf (F := F) CmpFPredicate.oge (v12 y) (FloatOps.ofBits FTy.f32 0#32) = 1#1

theorem sel_toNat (c : BitVec 1) (inst : Decidable (c = 1#1)) : (Scalar.select c 1#32 0#32).toNat = @ite ℕ (c = 1#1) inst 1 0 := by
  unfold Scalar.select
  by_cases h : c = 1#1 <;> simp [h]

theorem S1_eq (a b : S1.Idx) : a = b := funext fun d => by fin_cases d; exact Subsingleton.elim (α := Fin 1) _ _

open Classical in
theorem cnt_toNat (v12 : Vec F S1x1024 .f32) :
    (cnt v12).toNat = (Finset.univ.filter fun j : Fin 1024 => served v12 (ix2 0 j)).card := by
  unfold cnt k0_pay18
  dsimp only
  rw [show ∀ (v : IVec S1 32), extractAt ![0, 0, 0] (shapeCast S1x1x1 v shapeCasts_S1_S1x1x1) inpos_S1x1x1_p0_0_0 = v (ix1 0) from
    fun v => congrArg v (S1_eq _ _)]
  have key : ∀ (v : IVec S1x1024 32) (p : S1x1024.Idx → Prop), (∀ y, (v y).toNat = if p y then 1 else 0) →
      (multiReductionI .add [1, 2] S1 (shapeCast S1x1x1024 v shapeCasts_S1x1024_S1x1x1024) 0#32 reduces_S1x1x1024_S1 rfl (ix1 0)).toNat
        = (Finset.univ.filter fun j : Fin 1024 => p (ix2 0 j)).card := by
    intro v p hv
    have hs : ∑ i ∈ Finset.univ.filter (fun i => reduces_S1x1x1024_S1.drop i = ix1 0), ((shapeCast S1x1x1024 v shapeCasts_S1x1024_S1x1x1024) i).toNat
        = (Finset.univ.filter fun j : Fin 1024 => p (ix2 0 j)).card := by
      rw [Finset.card_filter]
      refine Finset.sum_bij' (fun i _ => (i 2 : Fin 1024)) (fun j _ => (ix3 0 0 j : S1x1x1024.Idx)) (fun _ _ => Finset.mem_univ _)
        (fun j _ => Finset.mem_filter.mpr ⟨Finset.mem_univ _, S1_eq _ _⟩) ?_ (fun _ _ => rfl) ?_
      · intro i _; funext a; fin_cases a
        · exact Subsingleton.elim (α := Fin 1) _ _
        · exact Subsingleton.elim (α := Fin 1) _ _
        · rfl
      · intro i _
        rw [← hv]
        idx_vars i
        pointwise
    exact (WordSum.toNat_multiReductionI_add _ _ _ _ (by rw [hs]; exact lt_of_le_of_lt (Finset.card_le_univ _) (by decide))).trans hs
  refine key _ (served v12) fun y => ?_
  unfold served
  pointwise
  exact sel_toNat _ _

theorem cnt_le (v12 : Vec F S1x1024 .f32) : (cnt v12).toNat < 1025 := by
  classical
  rw [cnt_toNat]
  exact Nat.lt_succ_of_le ((Finset.card_le_univ _).trans (by simp))

theorem cnt_facts (v12 : Vec F S1x1024 .f32) : k0_chk1 (cnt v12) ∧
    (k0_t1_loop (cnt v12)).trips = (cnt v12).toNat / 256 + (if 128 < (cnt v12).toNat % 256 then 1 else 0) ∧
    (k0_t2_loop (cnt v12)).trips = 0 ∧
    nfull (cnt v12) = BitVec.ofNat 32 ((cnt v12).toNat / 256 + (if 128 < (cnt v12).toNat % 256 then 1 else 0)) ∧
    (half (cnt v12) = 1#1 ↔ (0 < (cnt v12).toNat % 256 ∧ (cnt v12).toNat % 256 ≤ 128)) := by
  have h := facts ⟨(cnt v12).toNat, cnt_le v12⟩
  rwa [BitVec.ofNat_toNat, BitVec.setWidth_eq] at h

theorem chk (v12 : Vec F S1x1024 .f32) : k0_chk1 (extractAt ![0, 0, 0] (k0_pay18 v12) inpos_S1x1x1_p0_0_0) := (cnt_facts v12).1

end Cert.KernelIdeal.Moe
end
-- ==== Proof.MoeHead.lean ====
/- The head of the body: at the first expert the ranks are computed and the sum cleared, then the expert's row and column are read. -/
module

public import proofs.«01_k».proof.Proof.Gen.KernelIdeal.Loops
public import proofs.«01_k».proof.Proof.Gen.KernelIdeal.Frame
public import proofs.«01_k».proof.Proof.MoeBase
public import proofs.«01_k».proof.Proof.MoeCount

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (E : Set ℕ)
variable {i : grid0.Coords}
variable {arg2 : Memref sig .tc .vmem S1024x1024 .bf16} {harg2 : arg2.IsWhole}
variable {arg3 : Memref sig .tc .vmem S1x1024x1408 .bf16} {harg3 : arg3.IsWhole}
variable {arg4 : Memref sig .tc .vmem S1x1024x1408 .bf16} {harg4 : arg4.IsWhole}
variable {arg5 : Memref sig .tc .vmem S1x1408x1024 .bf16} {harg5 : arg5.IsWhole}
variable {arg6 : Memref sig .tc .vmem S1024x128 .f32} {harg6 : arg6.IsWhole}
variable {arg7 : Memref sig .tc .vmem S1024x1024 .bf16} {harg7 : arg7.IsWhole}
variable {arg8 : Memref sig .tc .vmem S1024x1024 .f32} {harg8 : arg8.IsWhole}
variable {arg9 : Memref sig .tc .vmem S1x1x1024 .f32} {harg9 : arg9.IsWhole}
variable {arg10 : Memref sig .tc .vmem S1x1024 .f32} {harg10 : arg10.IsWhole}
variable {arg11 : Memref sig .tc .vmem S1x1024 .f32} {harg11 : arg11.IsWhole}
variable {arg12 : Memref sig .tc .vmem S1024x1024 .f32} {harg12 : arg12.IsWhole}
variable {arg13 : Memref sig .tc .vmem S1024x1024 .f32} {harg13 : arg13.IsWhole}
variable {arg14 : Memref sig .tc .vmem S1024x128 .f32} {harg14 : arg14.IsWhole}
variable {arg15 : Memref sig .tc .vmem S128x1024 .f32} {harg15 : arg15.IsWhole}
variable {arg16 : Memref sig .tc .vmem S128x1024 .f32} {harg16 : arg16.IsWhole}

variable {x0 : Vec F S1024x1024 .bf16} {x4 : Vec F S1024x128 .f32} {x5 : Vec F S1024x1024 .bf16}

/-- An expert's row of a transposed table. -/
def row (i : grid0.Coords) (X : Vec F S128x1024 .f32) : Vec F S1x1024 .f32 :=
  fun y => X ((Rect.unit (s := S128x1024) (k0_off1 i) S1x1024.size (k0_off1_inb i)).toLoadRect.idx y)

/-- What the head of the body hands on. -/
def head' (i : grid0.Coords) (v10 : FVec F S1024x1 .f32) (v12 v14 : Vec F S1x1024 .f32) (u : Vec F S1024x1024 .bf16) :
    (Σ' (arg1 : BitVec 32) (v10 : FVec F S1024x1 .f32) (v12 : Vec F S1x1024 .f32) (v14 : Vec F S1x1024 .f32) (v23 : BitVec 32) (k0_hw1 : k0_chk1 v23) (v24 : Vec F S1024x1024 .bf16) (c256_i32 : BitVec 32) (v25 : BitVec 32), BitVec 1) :=
  ⟨BitVec.ofNat 32 (i 1).val, v10, v12, v14, cnt v12, (cnt_facts v12).1, u, 256#32, Scalar.divsi (cnt v12) 256#32,
    Scalar.cmpi .ne (Scalar.subi (Scalar.extui (Scalar.cmpi .sgt (cnt v12) 0#32) : BitVec 32) (Scalar.extui (Scalar.cmpi .slt (cnt v12) 0#32) : BitVec 32))
      (Scalar.subi (Scalar.extui (Scalar.cmpi .sgt 256#32 0#32) : BitVec 32) (Scalar.extui (Scalar.cmpi .slt 256#32 0#32) : BitVec 32))⟩

/-- What the head of the body hands on, from the tables. -/
def head (i : grid0.Coords) (u : Vec F S1024x1024 .bf16) (rank : Vec F S1024x128 .f32) (rankT gateT : Vec F S128x1024 .f32) :
    (Σ' (arg1 : BitVec 32) (v10 : FVec F S1024x1 .f32) (v12 : Vec F S1x1024 .f32) (v14 : Vec F S1x1024 .f32) (v23 : BitVec 32) (k0_hw1 : k0_chk1 v23) (v24 : Vec F S1024x1024 .bf16) (c256_i32 : BitVec 32) (v25 : BitVec 32), BitVec 1) :=
  head' i (k0_pay17 i rank) (row i rankT) (row i gateT) u

theorem entails_at {α : Type} {P : sProp 𝕄} {K : α → sProp 𝕄} {a b : α} (h : a = b) (H : Entails' P (K b)) : Entails' P (K a) := h ▸ H

/-- What a load of a part of a buffer gives after a store over all of it. -/
theorem row_store {m : Memref sig .tc .vmem S128x1024 .f32} (f : m.view.ty.Contents (Elt F)) (w : Vec F S128x1024 .f32) (L : List (View.Piece (Elt F) S128x1024 .f32)) :
    View.readAt (Elt F) m.view (Rect.unit (s := S128x1024) (k0_off1 i) S1x1024.size (k0_off1_inb i)).toLoadRect
      (m.view.writes (Elt F) f (⟨Rect.unit ![0, 0] S128x1024.size inb_S128x1024_S128x1024_0_0, w⟩ :: L)) = row i w := by
  funext y
  exact congrFun (Cert.Whole.read_store m.view f Cert.Whole.z2 inb_S128x1024_S128x1024_0_0 w L) _

/-- Reading a row after a store over the whole table. -/
theorem row_read {m : Memref sig .tc .vmem S128x1024 .f32} (hm : m.IsWhole) (X : Vec F S128x1024 .f32) :
    View.readAt (Elt F) m.view (Rect.unit (s := S128x1024) (k0_off1 i) S1x1024.size (k0_off1_inb i)).toLoadRect (hm.unread X) = row i X :=
  Cert.Whole.read_part hm X _

/-- Whether the point is the first expert's. -/
def first (i : grid0.Coords) : BitVec 1 := Scalar.cmpi .ne (Scalar.extui (Scalar.cmpi .eq (BitVec.ofNat 32 (i 1).val) 0#32) : BitVec 32) 0#32

theorem part4_later (h1 : ¬ first i = 1#1) (x13 : Vec F S1024x1024 .f32) (x14 : Vec F S1024x128 .f32) (x15 x16 : Vec F S128x1024 .f32) (K : (Σ' (arg1 : BitVec 32) (v10 : FVec F S1024x1 .f32) (v12 : Vec F S1x1024 .f32) (v14 : Vec F S1x1024 .f32) (v23 : BitVec 32) (k0_hw1 : k0_chk1 v23) (v24 : Vec F S1024x1024 .bf16) (c256_i32 : BitVec 32) (v25 : BitVec 32), BitVec 1) → sProp 𝕄) :
    iprop(owns (c : Thread nD τ) arg2 fullShare x0 ∗ owns (c : Thread nD τ) arg6 fullShare x4 ∗ owns (c : Thread nD τ) arg7 fullShare x5 ∗ owns (c : Thread nD τ) arg13 fullShare x13 ∗ owns (c : Thread nD τ) arg14 fullShare x14 ∗ owns (c : Thread nD τ) arg15 fullShare x15 ∗ owns (c : Thread nD τ) arg16 fullShare x16
      ∗ (iprop(owns (c : Thread nD τ) arg2 fullShare x0 ∗ owns (c : Thread nD τ) arg6 fullShare x4 ∗ owns (c : Thread nD τ) arg7 fullShare x5 ∗ owns (c : Thread nD τ) arg13 fullShare x13 ∗ owns (c : Thread nD τ) arg14 fullShare x14 ∗ owns (c : Thread nD τ) arg15 fullShare x15 ∗ owns (c : Thread nD τ) arg16 fullShare x16) -∗ K (head i x0 x14 x15 x16)))
    ⊢ wp frame (wpE (defs₀ (F := F)) Variants.none (c : Thread nD τ) none) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part4_eq_skeleton]
  unfold k0_part4_skel
  unfold owns
  iintro ⟨⟨%f2, %hf2, H2⟩, H6, H7, H13, ⟨%f14, %hf14, H14⟩, ⟨%f15, %hf15, H15⟩, ⟨%f16, %hf16, H16⟩, Hk⟩
  obtain rfl := harg2.eq_unread hf2; obtain rfl := harg14.eq_unread hf14; obtain rfl := harg15.eq_unread hf15; obtain rfl := harg16.eq_unread hf16
  sl_exec (disch := first | sl_exact h1 | exact chk _)
  sl_step
  refine entails_at (b := head i x0 x14 x15 x16) ?_ ?_
  · refine (show _ = head' i _ _ _ _ from rfl).trans ?_
    unfold head
    rw [Cert.Whole.read_load harg14 x14 Cert.Whole.z2, row_read harg15, row_read harg16, Cert.Whole.read_load harg2 x0 Cert.Whole.z2]
  iapply Hk
  isplitl [H2]
  · iexists _; isplitr; · ipureintro; exact harg2.read_unread _
    iexact H2
  isplitl [H6]
  · iexact H6
  isplitl [H7]
  · iexact H7
  isplitl [H13]
  · iexact H13
  isplitl [H14]
  · iexists _; isplitr; · ipureintro; exact harg14.read_unread _
    iexact H14
  isplitl [H15]
  · iexists _; isplitr; · ipureintro; exact harg15.read_unread _
    iexact H15
  iexists _; isplitr; · ipureintro; exact harg16.read_unread _
  iexact H16

theorem part4_first (h1 : first i = 1#1) (K : (Σ' (arg1 : BitVec 32) (v10 : FVec F S1024x1 .f32) (v12 : Vec F S1x1024 .f32) (v14 : Vec F S1x1024 .f32) (v23 : BitVec 32) (k0_hw1 : k0_chk1 v23) (v24 : Vec F S1024x1024 .bf16) (c256_i32 : BitVec 32) (v25 : BitVec 32), BitVec 1) → sProp 𝕄) :
    iprop(owns (c : Thread nD τ) arg2 fullShare x0 ∗ owns (c : Thread nD τ) arg6 fullShare x4 ∗ owns (c : Thread nD τ) arg7 fullShare x5 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg2 fullShare x0 ∗ owns (c : Thread nD τ) arg6 fullShare x4 ∗ owns (c : Thread nD τ) arg7 fullShare x5 ∗ owns (c : Thread nD τ) arg13 fullShare (k0_pay11 (F := F)) ∗ owns (c : Thread nD τ) arg14 fullShare (k0_pay14 x4 x5) ∗ owns (c : Thread nD τ) arg15 fullShare (k0_pay15 x4 x5) ∗ owns (c : Thread nD τ) arg16 fullShare (k0_pay16 x4)) -∗ K (head i x0 (k0_pay14 x4 x5) (k0_pay15 x4 x5) (k0_pay16 x4))))
    ⊢ wp frame (wpE (defs₀ (F := F)) Variants.none (c : Thread nD τ) none) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part4_eq_skeleton]
  unfold k0_part4_skel
  unfold owns
  iintro ⟨⟨%f2, %hf2, H2⟩, ⟨%f6, %hf6, H6⟩, ⟨%f7, %hf7, H7⟩, ⟨%d13, %f13, -, H13⟩, ⟨%d14, %f14, -, H14⟩, ⟨%d15, %f15, -, H15⟩, ⟨%d16, %f16, -, H16⟩, Hk⟩
  obtain rfl := harg2.eq_unread hf2; obtain rfl := harg6.eq_unread hf6; obtain rfl := harg7.eq_unread hf7
  sl_exec (disch := first | sl_exact h1 | exact chk _)
  sl_step
  have e6 := Cert.Whole.read_load harg6 x4 Cert.Whole.z2 inb_S1024x128_S1024x128_0_0
  have e7 := Cert.Whole.read_load harg7 x5 Cert.Whole.z2 inb_S1024x1024_S1024x1024_0_0
  refine entails_at (b := head i x0 (k0_pay14 x4 x5) (k0_pay15 x4 x5) (k0_pay16 x4)) ?_ ?_
  · refine (show _ = head' i _ _ _ _ from rfl).trans ?_
    unfold head
    unfold part4_first.sl.v6 part4_first.sl.v12 part4_first.sl.H14_1 part4_first.sl.H15_1 part4_first.sl.H16_1
    rw [row_store, row_store, Cert.Whole.read_load harg2 x0 Cert.Whole.z2, View.readCov_unit_zero _ Cert.Whole.z2, e6, e7]
  iapply Hk
  isplitl [H2]
  · iexists _; isplitr; · ipureintro; exact harg2.read_unread _
    iexact H2
  isplitl [H6]
  · iexists _; isplitr; · ipureintro; exact harg6.read_unread _
    iexact H6
  isplitl [H7]
  · iexists _; isplitr; · ipureintro; exact harg7.read_unread _
    iexact H7
  isplitl [H13]
  · iexists _; isplitr; swap; · iexact H13
    ipureintro
    exact Cert.Whole.read_store _ _ Cert.Whole.z2 _ _ []
  isplitl [H14]
  · iexists _; isplitr; swap; · iexact H14
    ipureintro
    unfold part4_first.sl.H14_1
    refine (Cert.Whole.read_store _ _ Cert.Whole.z2 _ _ []).trans ?_
    rw [e6, e7]
  isplitl [H15]
  · iexists _; isplitr; swap; · iexact H15
    ipureintro
    unfold part4_first.sl.H15_1
    refine (Cert.Whole.read_store _ _ Cert.Whole.z2 _ _ []).trans ?_
    rw [e6, e7]
  iexists _; isplitr; swap; · iexact H16
  ipureintro
  unfold part4_first.sl.H16_1
  refine (Cert.Whole.read_store _ _ Cert.Whole.z2 _ _ []).trans ?_
  rw [e6]

end Cert.KernelIdeal.Moe
end
-- ==== Proof.MoeTrip.lean ====
/- One pass over the slots of an expert: the state it leaves. -/
module

public import proofs.«01_k».proof.Proof.Gen.KernelIdeal.Loops
public import proofs.«01_k».proof.Proof.Gen.KernelIdeal.Frame
public import proofs.«01_k».proof.Proof.MoeBase

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (E : Set ℕ)
variable {i : grid0.Coords}
variable {arg2 : Memref sig .tc .vmem S1024x1024 .bf16} {harg2 : arg2.IsWhole}
variable {arg3 : Memref sig .tc .vmem S1x1024x1408 .bf16} {harg3 : arg3.IsWhole}
variable {arg4 : Memref sig .tc .vmem S1x1024x1408 .bf16} {harg4 : arg4.IsWhole}
variable {arg5 : Memref sig .tc .vmem S1x1408x1024 .bf16} {harg5 : arg5.IsWhole}
variable {arg6 : Memref sig .tc .vmem S1024x128 .f32} {harg6 : arg6.IsWhole}
variable {arg7 : Memref sig .tc .vmem S1024x1024 .bf16} {harg7 : arg7.IsWhole}
variable {arg8 : Memref sig .tc .vmem S1024x1024 .f32} {harg8 : arg8.IsWhole}
variable {arg9 : Memref sig .tc .vmem S1x1x1024 .f32} {harg9 : arg9.IsWhole}
variable {arg10 : Memref sig .tc .vmem S1x1024 .f32} {harg10 : arg10.IsWhole}
variable {arg11 : Memref sig .tc .vmem S1x1024 .f32} {harg11 : arg11.IsWhole}
variable {arg12 : Memref sig .tc .vmem S1024x1024 .f32} {harg12 : arg12.IsWhole}
variable {arg13 : Memref sig .tc .vmem S1024x1024 .f32} {harg13 : arg13.IsWhole}
variable {arg14 : Memref sig .tc .vmem S1024x128 .f32} {harg14 : arg14.IsWhole}
variable {arg15 : Memref sig .tc .vmem S128x1024 .f32} {harg15 : arg15.IsWhole}
variable {arg16 : Memref sig .tc .vmem S128x1024 .f32} {harg16 : arg16.IsWhole}

variable {x1 : Vec F S1x1024x1408 .bf16} {x2 : Vec F S1x1024x1408 .bf16} {x3 : Vec F S1x1408x1024 .bf16}
variable {v10 : FVec F S1024x1 .f32} {v12 v14 : Vec F S1x1024 .f32} {v23 : BitVec 32} {hw : k0_chk1 v23} {v24 : Vec F S1024x1024 .bf16}

/-- The sum after one full pass. -/
def pass1 (v10 : FVec F S1024x1 .f32) (v12 v14 : Vec F S1x1024 .f32) (v23 : BitVec 32) (v24 : Vec F S1024x1024 .bf16)
    (x1 : Vec F S1x1024x1408 .bf16) (x2 : Vec F S1x1024x1408 .bf16) (x3 : Vec F S1x1408x1024 .bf16)
    (k : Fin (k0_t1_loop v23).trips) (acc : Vec F S1024x1024 .f32) : Vec F S1024x1024 .f32 :=
  k0_pay1 v10 (k0_pay5 (F := F) v23 0#32 1#32 k) (k0_pay6 v12 v14 v23 v24 0#32 1#32 k x1 x2 x3) acc

theorem trip1 (k : Fin (k0_t1_loop v23).trips) (acc : Vec F S1024x1024 .f32) (K : Unit → sProp 𝕄) :
    iprop(owns (c : Thread nD τ) arg3 fullShare x1 ∗ owns (c : Thread nD τ) arg4 fullShare x2 ∗ owns (c : Thread nD τ) arg5 fullShare x3 ∗ owns (c : Thread nD τ) arg13 fullShare acc
      ∗ (iprop(owns (c : Thread nD τ) arg3 fullShare x1 ∗ owns (c : Thread nD τ) arg4 fullShare x2 ∗ owns (c : Thread nD τ) arg5 fullShare x3 ∗ owns (c : Thread nD τ) arg13 fullShare (pass1 v10 v12 v14 v23 v24 x1 x2 x3 k acc)) -∗ K ()))
    ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 v23 hw v24 k ()) K := by
  unfold k0_t1_body
  simp only [k0_part1_eq_skeleton]
  unfold owns
  iintro ⟨⟨%f1, %hf1, H1⟩, ⟨%f2, %hf2, H2⟩, ⟨%f3, %hf3, H3⟩, ⟨%fs, %hfs, HS⟩, Hk⟩
  obtain rfl := harg3.eq_unread hf1; obtain rfl := harg4.eq_unread hf2; obtain rfl := harg5.eq_unread hf3; obtain rfl := harg13.eq_unread hfs
  sl_exec
  sl_step
  iapply Hk
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact HS
  ipureintro
  refine (Cert.Whole.read_store _ _ Cert.Whole.z2 _ _ []).trans ?_
  unfold pass1 trip1.sl.r trip1.sl.r_1
  rw [Cert.Whole.read_load harg13 acc Cert.Whole.z2, Cert.Whole.read_load harg3 x1 Cert.Whole.z3, Cert.Whole.read_load harg4 x2 Cert.Whole.z3,
    Cert.Whole.read_load harg5 x3 Cert.Whole.z3]

end Cert.KernelIdeal.Moe
end
-- ==== Proof.MoeRest.lean ====
/- The end of the body at one point of the grid: the half pass, and the output at the last expert. -/
module

public import proofs.«01_k».proof.Proof.MoeHead

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (E : Set ℕ)
variable {i : grid0.Coords}
variable {arg2 : Memref sig .tc .vmem S1024x1024 .bf16} {harg2 : arg2.IsWhole}
variable {arg3 : Memref sig .tc .vmem S1x1024x1408 .bf16} {harg3 : arg3.IsWhole}
variable {arg4 : Memref sig .tc .vmem S1x1024x1408 .bf16} {harg4 : arg4.IsWhole}
variable {arg5 : Memref sig .tc .vmem S1x1408x1024 .bf16} {harg5 : arg5.IsWhole}
variable {arg6 : Memref sig .tc .vmem S1024x128 .f32} {harg6 : arg6.IsWhole}
variable {arg7 : Memref sig .tc .vmem S1024x1024 .bf16} {harg7 : arg7.IsWhole}
variable {arg8 : Memref sig .tc .vmem S1024x1024 .f32} {harg8 : arg8.IsWhole}
variable {arg9 : Memref sig .tc .vmem S1x1x1024 .f32} {harg9 : arg9.IsWhole}
variable {arg10 : Memref sig .tc .vmem S1x1024 .f32} {harg10 : arg10.IsWhole}
variable {arg11 : Memref sig .tc .vmem S1x1024 .f32} {harg11 : arg11.IsWhole}
variable {arg12 : Memref sig .tc .vmem S1024x1024 .f32} {harg12 : arg12.IsWhole}
variable {arg13 : Memref sig .tc .vmem S1024x1024 .f32} {harg13 : arg13.IsWhole}
variable {arg14 : Memref sig .tc .vmem S1024x128 .f32} {harg14 : arg14.IsWhole}
variable {arg15 : Memref sig .tc .vmem S128x1024 .f32} {harg15 : arg15.IsWhole}
variable {arg16 : Memref sig .tc .vmem S128x1024 .f32} {harg16 : arg16.IsWhole}

variable {x0 : Vec F S1024x1024 .bf16} {x1 x2 : Vec F S1x1024x1408 .bf16} {x3 : Vec F S1x1408x1024 .bf16} {x6 : Vec F S1024x1024 .f32} {x7 : Vec F S1x1x1024 .f32}
variable {x8 x9 : Vec F S1x1024 .f32} {v10 : FVec F S1024x1 .f32} {v12 v14 : Vec F S1x1024 .f32} {n : BitVec 32} {b : BitVec 1} {x10 : Vec F S1024x1024 .f32}

/-- The body after the full passes. -/
def rest (i : grid0.Coords) (arg2 : Memref sig .tc .vmem S1024x1024 .bf16) (harg2 : arg2.IsWhole) (arg3 : Memref sig .tc .vmem S1x1024x1408 .bf16) (harg3 : arg3.IsWhole) (arg4 : Memref sig .tc .vmem S1x1024x1408 .bf16) (harg4 : arg4.IsWhole) (arg5 : Memref sig .tc .vmem S1x1408x1024 .bf16) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x128 .f32) (harg14 : arg14.IsWhole) (arg15 : Memref sig .tc .vmem S128x1024 .f32) (harg15 : arg15.IsWhole) (arg16 : Memref sig .tc .vmem S128x1024 .f32) (harg16 : arg16.IsWhole) (v10 : FVec F S1024x1 .f32) (v12 v14 : Vec F S1x1024 .f32) (v24 : Vec F S1024x1024 .bf16) (n : BitVec 32) (b : BitVec 1) :
    Prog (TpuEff nD τ sig (Elt F) Λ₀ .tc) PUnit := do
  if b = 1#1 then do
    let ⟨v61, v98, v99⟩ : Σ' (v61 : F .f32) (v98 : FVec F S128x1024 .f32), IVec S1024x128 32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 v12 v14 v24 n
    let v109 : Vec F S1024x1024 .f32 ← Prog.lift (.load arg13 (Rect.unit (s := S1024x1024) ![0, 0] S1024x1024.size inb_S1024x1024_S1024x1024_0_0).toLoadRect (View.loadsAt_vmem h_S1024x1024))
    let v113 : Vec F S1024x1024 .f32 ← Prog.lift (.load arg13 (Rect.unit (s := S1024x1024) ![0, 0] S1024x1024.size inb_S1024x1024_S1024x1024_0_0).toLoadRect (View.loadsAt_vmem h_S1024x1024))
    Prog.lift (.store arg13 (Rect.unit (s := S1024x1024) ![0, 0] S1024x1024.size inb_S1024x1024_S1024x1024_0_0) (k0_pay3 v10 v61 v98 v99 v109) Finset.univ (View.stores_vmem_bits_univ h_S1024x1024 rfl) (.inl rfl))
    pure ⟨⟩
  else do
    pure ⟨⟩
  if k0_h3 : k0_cond3 i = 1#1 then do
    let v60 : Vec F S1024x1024 .f32 ← Prog.lift (.load arg8 (Rect.unit (s := S1024x1024) ![0, 0] S1024x1024.size inb_S1024x1024_S1024x1024_0_0).toLoadRect (View.loadsAt_vmem h_S1024x1024))
    let v63 : Vec F S1x1x1024 .f32 ← Prog.lift (.load arg9 (Rect.unit (s := S1x1x1024) ![0, 0, 0] S1x1x1024.size inb_S1x1x1024_S1x1x1024_0_0_0).toLoadRect (View.loadsAt_vmem h_S1x1x1024))
    let v65 : Vec F S1024x1024 .f32 ← Prog.lift (.load arg13 (Rect.unit (s := S1024x1024) ![0, 0] S1024x1024.size inb_S1024x1024_S1024x1024_0_0).toLoadRect (View.loadsAt_vmem h_S1024x1024))
    let v69 : Vec F S1x1024 .f32 ← Prog.lift (.load arg10 (Rect.unit (s := S1x1024) ![0, 0] S1x1024.size inb_S1x1024_S1x1024_0_0).toLoadRect (View.loadsAt_vmem h_S1x1024))
    let v71 : Vec F S1x1024 .f32 ← Prog.lift (.load arg11 (Rect.unit (s := S1x1024) ![0, 0] S1x1024.size inb_S1x1024_S1x1024_0_0).toLoadRect (View.loadsAt_vmem h_S1x1024))
    let v93 : Vec F S1024x1024 .f32 ← Prog.lift (.load arg12 (Rect.unit (s := S1024x1024) ![0, 0] S1024x1024.size inb_S1024x1024_S1024x1024_0_0).toLoadRect (View.loadsAt_vmem h_S1024x1024))
    Prog.lift (.store arg12 (Rect.unit (s := S1024x1024) ![0, 0] S1024x1024.size inb_S1024x1024_S1024x1024_0_0) (k0_pay4 v60 v63 v65 v69 v71) Finset.univ (View.stores_vmem_bits_univ h_S1024x1024 rfl) (.inl rfl))
    pure ⟨⟩
  else do
    pure ⟨⟩
  pure ⟨⟩

/-- The sum after the half pass. -/
def pass2 (v10 : FVec F S1024x1 .f32) (v12 v14 : Vec F S1x1024 .f32) (u : Vec F S1024x1024 .bf16)
    (x1 x2 : Vec F S1x1024x1408 .bf16) (x3 : Vec F S1x1408x1024 .bf16) (n : BitVec 32) (acc : Vec F S1024x1024 .f32) : Vec F S1024x1024 .f32 :=
  k0_pay3 v10 (k0_pay9 (F := F) n) (k0_pay10 v12 v14 u n x1 x2 x3) (iota .tc S1024x128 32 [1] iota_S1024x128_d1_w32) acc

theorem rest_nn (hb : ¬ b = 1#1) (h3 : ¬ k0_cond3 i = 1#1) (acc : Vec F S1024x1024 .f32) (K : PUnit → sProp 𝕄) :
    iprop(owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare acc
      ∗ (iprop(owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare acc) -∗ K ⟨⟩))
    ⊢ wp frame (wpE (defs₀ (F := F)) Variants.none (c : Thread nD τ) none) E (rest (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 x0 n b) K := by
  unfold rest
  simp only [k0_part3_eq_skeleton]
  unfold owns
  iintro ⟨H3, H4, H5, H8, H9, H10, H11, H12, H13, Hk⟩

  sl_exec (disch := first | sl_exact hb | sl_exact h3)
  sl_step
  iapply Hk
  isplitl [H3]
  · iexact H3
  isplitl [H4]
  · iexact H4
  isplitl [H5]
  · iexact H5
  isplitl [H8]
  · iexact H8
  isplitl [H9]
  · iexact H9
  isplitl [H10]
  · iexact H10
  isplitl [H11]
  · iexact H11
  isplitl [H12]
  · iexact H12
  iexact H13

theorem rest_hn (hb : b = 1#1) (h3 : ¬ k0_cond3 i = 1#1) (acc : Vec F S1024x1024 .f32) (K : PUnit → sProp 𝕄) :
    iprop(owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare acc
      ∗ (iprop(owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (pass2 v10 v12 v14 x0 x1 x2 x3 n acc)) -∗ K ⟨⟩))
    ⊢ wp frame (wpE (defs₀ (F := F)) Variants.none (c : Thread nD τ) none) E (rest (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 x0 n b) K := by
  unfold rest
  simp only [k0_part3_eq_skeleton]
  unfold owns
  iintro ⟨⟨%f3, %hf3, H3⟩, ⟨%f4, %hf4, H4⟩, ⟨%f5, %hf5, H5⟩, H8, H9, H10, H11, H12, ⟨%f13, %hf13, H13⟩, Hk⟩
  obtain rfl := harg3.eq_unread hf3
  obtain rfl := harg4.eq_unread hf4
  obtain rfl := harg5.eq_unread hf5
  obtain rfl := harg13.eq_unread hf13
  sl_exec (disch := first | sl_exact hb | sl_exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexact H8
  isplitl [H9]
  · iexact H9
  isplitl [H10]
  · iexact H10
  isplitl [H11]
  · iexact H11
  isplitl [H12]
  · iexact H12
  iexists _; isplitr; swap; · iexact H13
  ipureintro
  refine (Cert.Whole.read_store _ _ Cert.Whole.z2 _ _ []).trans ?_
  unfold rest_hn.sl.r rest_hn.sl.v99
  rw [Cert.Whole.read_load harg13 acc Cert.Whole.z2, Cert.Whole.read_load harg3 x1 Cert.Whole.z3,
    Cert.Whole.read_load harg4 x2 Cert.Whole.z3, Cert.Whole.read_load harg5 x3 Cert.Whole.z3]
  rfl

theorem rest_nl (hb : ¬ b = 1#1) (h3 : k0_cond3 i = 1#1) (acc : Vec F S1024x1024 .f32) (K : PUnit → sProp 𝕄) :
    iprop(owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare acc
      ∗ (iprop(owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k0_pay4 x6 x7 acc x8 x9) ∗ owns (c : Thread nD τ) arg13 fullShare acc) -∗ K ⟨⟩))
    ⊢ wp frame (wpE (defs₀ (F := F)) Variants.none (c : Thread nD τ) none) E (rest (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 x0 n b) K := by
  unfold rest
  simp only [k0_part3_eq_skeleton]
  unfold owns
  iintro ⟨H3, H4, H5, ⟨%f8, %hf8, H8⟩, ⟨%f9, %hf9, H9⟩, ⟨%f10, %hf10, H10⟩, ⟨%f11, %hf11, H11⟩, ⟨%d12, %f12, -, H12⟩, ⟨%f13, %hf13, H13⟩, Hk⟩
  obtain rfl := harg8.eq_unread hf8
  obtain rfl := harg9.eq_unread hf9
  obtain rfl := harg10.eq_unread hf10
  obtain rfl := harg11.eq_unread hf11
  obtain rfl := harg13.eq_unread hf13
  sl_exec (disch := first | sl_exact hb | sl_exact h3)
  sl_step
  iapply Hk
  isplitl [H3]
  · iexact H3
  isplitl [H4]
  · iexact H4
  isplitl [H5]
  · iexact H5
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    refine (Cert.Whole.read_store _ _ Cert.Whole.z2 _ _ []).trans ?_
    rw [Cert.Whole.read_load harg8 x6 Cert.Whole.z2, Cert.Whole.read_load harg9 x7 Cert.Whole.z3, Cert.Whole.read_load harg10 x8 Cert.Whole.z2,
      Cert.Whole.read_load harg11 x9 Cert.Whole.z2, Cert.Whole.read_load harg13 acc Cert.Whole.z2]
  iexists _; isplitr; · ipureintro; exact harg13.read_unread _
  iexact H13

theorem rest_hl (hb : b = 1#1) (h3 : k0_cond3 i = 1#1) (acc : Vec F S1024x1024 .f32) (K : PUnit → sProp 𝕄) :
    iprop(owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare acc
      ∗ (iprop(owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k0_pay4 x6 x7 (pass2 v10 v12 v14 x0 x1 x2 x3 n acc) x8 x9) ∗ owns (c : Thread nD τ) arg13 fullShare (pass2 v10 v12 v14 x0 x1 x2 x3 n acc)) -∗ K ⟨⟩))
    ⊢ wp frame (wpE (defs₀ (F := F)) Variants.none (c : Thread nD τ) none) E (rest (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 x0 n b) K := by
  unfold rest
  simp only [k0_part3_eq_skeleton]
  unfold owns
  iintro ⟨⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, ⟨%d12, %f12, -, H12⟩, ⟨%f13, %hf13, H13⟩, Hk⟩
  obtain rfl := harg3.eq_unread hf3
  obtain rfl := harg4.eq_unread hf4
  obtain rfl := harg5.eq_unread hf5
  obtain rfl := harg8.eq_unread hf8
  obtain rfl := harg9.eq_unread hf9
  obtain rfl := harg10.eq_unread hf10
  obtain rfl := harg11.eq_unread hf11
  obtain rfl := harg13.eq_unread hf13
  sl_exec (disch := first | sl_exact hb | sl_exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    refine (Cert.Whole.read_store _ _ Cert.Whole.z2 _ _ []).trans ?_
    rw [Cert.Whole.read_load harg8 x6 Cert.Whole.z2, Cert.Whole.read_load harg9 x7 Cert.Whole.z3, Cert.Whole.read_load harg10 x8 Cert.Whole.z2,
      Cert.Whole.read_load harg11 x9 Cert.Whole.z2]
    unfold rest_hl.sl.v65 rest_hl.sl.H13_1 rest_hl.sl.r rest_hl.sl.v99
    rw [View.readCov_unit_zero _ Cert.Whole.z2, Cert.Whole.read_load harg13 acc Cert.Whole.z2, Cert.Whole.read_load harg3 x1 Cert.Whole.z3,
      Cert.Whole.read_load harg4 x2 Cert.Whole.z3, Cert.Whole.read_load harg5 x3 Cert.Whole.z3]
    rfl
  iexists _; isplitr; swap; · iexact H13
  ipureintro
  unfold rest_hl.sl.H13_1
  refine (Cert.Whole.read_store _ _ Cert.Whole.z2 _ _ []).trans ?_
  unfold rest_hl.sl.r rest_hl.sl.v99
  rw [Cert.Whole.read_load harg13 acc Cert.Whole.z2, Cert.Whole.read_load harg3 x1 Cert.Whole.z3,
    Cert.Whole.read_load harg4 x2 Cert.Whole.z3, Cert.Whole.read_load harg5 x3 Cert.Whole.z3]
  rfl

end Cert.KernelIdeal.Moe
end
-- ==== Proof.MoeBody.lean ====
/- The body at one point of the grid: what it leaves in the running sum, and in the output at the last expert. -/
module

public import proofs.«01_k».proof.Proof.MoeHead
public import proofs.«01_k».proof.Proof.MoeTrip
public import proofs.«01_k».proof.Proof.MoeRest

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (E : Set ℕ)
variable {i : grid0.Coords}
variable {arg2 : Memref sig .tc .vmem S1024x1024 .bf16} {harg2 : arg2.IsWhole}
variable {arg3 : Memref sig .tc .vmem S1x1024x1408 .bf16} {harg3 : arg3.IsWhole}
variable {arg4 : Memref sig .tc .vmem S1x1024x1408 .bf16} {harg4 : arg4.IsWhole}
variable {arg5 : Memref sig .tc .vmem S1x1408x1024 .bf16} {harg5 : arg5.IsWhole}
variable {arg6 : Memref sig .tc .vmem S1024x128 .f32} {harg6 : arg6.IsWhole}
variable {arg7 : Memref sig .tc .vmem S1024x1024 .bf16} {harg7 : arg7.IsWhole}
variable {arg8 : Memref sig .tc .vmem S1024x1024 .f32} {harg8 : arg8.IsWhole}
variable {arg9 : Memref sig .tc .vmem S1x1x1024 .f32} {harg9 : arg9.IsWhole}
variable {arg10 : Memref sig .tc .vmem S1x1024 .f32} {harg10 : arg10.IsWhole}
variable {arg11 : Memref sig .tc .vmem S1x1024 .f32} {harg11 : arg11.IsWhole}
variable {arg12 : Memref sig .tc .vmem S1024x1024 .f32} {harg12 : arg12.IsWhole}
variable {arg13 : Memref sig .tc .vmem S1024x1024 .f32} {harg13 : arg13.IsWhole}
variable {arg14 : Memref sig .tc .vmem S1024x128 .f32} {harg14 : arg14.IsWhole}
variable {arg15 : Memref sig .tc .vmem S128x1024 .f32} {harg15 : arg15.IsWhole}
variable {arg16 : Memref sig .tc .vmem S128x1024 .f32} {harg16 : arg16.IsWhole}

variable {x0 : Vec F S1024x1024 .bf16} {x1 x2 : Vec F S1x1024x1408 .bf16} {x3 : Vec F S1x1408x1024 .bf16} {x6 : Vec F S1024x1024 .f32} {x7 : Vec F S1x1x1024 .f32}
variable {x8 x9 : Vec F S1x1024 .f32} {v10 : FVec F S1024x1 .f32} {v12 v14 : Vec F S1x1024 .f32}

/-- The sum after `n` full passes. -/
def passes (v10 : FVec F S1024x1 .f32) (v12 v14 : Vec F S1x1024 .f32) (u : Vec F S1024x1024 .bf16)
    (x1 x2 : Vec F S1x1024x1408 .bf16) (x3 : Vec F S1x1408x1024 .bf16) (acc : Vec F S1024x1024 .f32) : ℕ → Vec F S1024x1024 .f32
  | 0 => acc
  | n + 1 => if h : n < (k0_t1_loop (cnt v12)).trips then pass1 v10 v12 v14 (cnt v12) u x1 x2 x3 ⟨n, h⟩ (passes v10 v12 v14 u x1 x2 x3 acc n)
      else passes v10 v12 v14 u x1 x2 x3 acc n

/-- The sum after an expert. -/
def accAt (v10 : FVec F S1024x1 .f32) (v12 v14 : Vec F S1x1024 .f32) (u : Vec F S1024x1024 .bf16)
    (x1 x2 : Vec F S1x1024x1408 .bf16) (x3 : Vec F S1x1408x1024 .bf16) (acc : Vec F S1024x1024 .f32) : Vec F S1024x1024 .f32 :=
  if half (cnt v12) = 1#1 then pass2 v10 v12 v14 u x1 x2 x3 (nfull (cnt v12)) (passes v10 v12 v14 u x1 x2 x3 acc (k0_t1_loop (cnt v12)).trips)
  else passes v10 v12 v14 u x1 x2 x3 acc (k0_t1_loop (cnt v12)).trips

theorem passes_succ (acc : Vec F S1024x1024 .f32) (k : Fin (k0_t1_loop (cnt v12)).trips) :
    passes v10 v12 v14 x0 x1 x2 x3 acc (k.val + 1) = pass1 v10 v12 v14 (cnt v12) x0 x1 x2 x3 k (passes v10 v12 v14 x0 x1 x2 x3 acc k.val) := by
  rw [passes, dif_pos k.isLt]

theorem loop1 {hw : k0_chk1 (cnt v12)} {hok : (k0_t1_loop (cnt v12)).OK} (acc : Vec F S1024x1024 .f32) (K : PUnit → sProp 𝕄) :
    iprop(owns (c : Thread nD τ) arg3 fullShare x1 ∗ owns (c : Thread nD τ) arg4 fullShare x2 ∗ owns (c : Thread nD τ) arg5 fullShare x3 ∗ owns (c : Thread nD τ) arg13 fullShare acc ∗ (iprop(owns (c : Thread nD τ) arg3 fullShare x1 ∗ owns (c : Thread nD τ) arg4 fullShare x2 ∗ owns (c : Thread nD τ) arg5 fullShare x3 ∗ owns (c : Thread nD τ) arg13 fullShare (passes v10 v12 v14 x0 x1 x2 x3 acc (k0_t1_loop (cnt v12)).trips)) -∗ K ⟨⟩))
    ⊢ wp frame (wpE (defs₀ (F := F)) Variants.none (c : Thread nD τ) none) E (Scf.Loop.for (k0_t1_loop (cnt v12)) hok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 (cnt v12) hw x0)) K := by
  have hb : ∀ (k : Fin (k0_t1_loop (cnt v12)).trips) (a : Unit),
      iprop(owns (c : Thread nD τ) arg3 fullShare x1 ∗ owns (c : Thread nD τ) arg4 fullShare x2 ∗ owns (c : Thread nD τ) arg5 fullShare x3 ∗ owns (c : Thread nD τ) arg13 fullShare (passes v10 v12 v14 x0 x1 x2 x3 acc k.val)) ⊢
      wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 (cnt v12) hw x0 k a) (fun _ : Unit => (iprop(owns (c : Thread nD τ) arg3 fullShare x1 ∗ owns (c : Thread nD τ) arg4 fullShare x2 ∗ owns (c : Thread nD τ) arg5 fullShare x3 ∗ owns (c : Thread nD τ) arg13 fullShare (passes v10 v12 v14 x0 x1 x2 x3 acc (k.val + 1))) : sProp 𝕄)) := by
    intro k a
    rw [passes_succ]
    iintro ⟨H3, H4, H5, H13⟩
    iapply (trip1 c E k _ _)
    isplitl [H3]
    · iexact H3
    isplitl [H4]
    · iexact H4
    isplitl [H5]
    · iexact H5
    isplitl [H13]
    · iexact H13
    iintro H
    iexact H
  iintro ⟨H3, H4, H5, H13, Hk⟩
  iapply (Scf.wp_for frame (wpE (defs₀ (F := F)) Variants.none (c : Thread nD τ) none) E _ _ _ hok ⟨⟩ _ (fun n _ => iprop(owns (c : Thread nD τ) arg3 fullShare x1 ∗ owns (c : Thread nD τ) arg4 fullShare x2 ∗ owns (c : Thread nD τ) arg5 fullShare x3 ∗ owns (c : Thread nD τ) arg13 fullShare (passes v10 v12 v14 x0 x1 x2 x3 acc n))) hb)
  isplitl [H3 H4 H5 H13]
  · isplitl [H3]
    · iexact H3
    isplitl [H4]
    · iexact H4
    isplitl [H5]
    · iexact H5
    iexact H13
  iintro %u H
  iapply Hk
  iexact H

theorem loop2 {hw : k0_chk1 (cnt v12)} {hok : (k0_t2_loop (cnt v12)).OK} (v51 : BitVec 32) (K : PUnit → sProp 𝕄) :
    K ⟨⟩ ⊢ wp frame (wpE (defs₀ (F := F)) Variants.none (c : Thread nD τ) none) E (Scf.Loop.for (k0_t2_loop (cnt v12)) hok ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 (cnt v12) hw x0 v51)) K := by
  have h0 := (cnt_facts v12).2.2.1
  have hb : ∀ (k : Fin (k0_t2_loop (cnt v12)).trips) (a : Unit),
      iprop(K ⟨⟩) ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 (cnt v12) hw x0 v51 k a) (fun _ : Unit => (iprop(K ⟨⟩) : sProp 𝕄)) :=
    fun k _ => absurd (h0 ▸ k.isLt : k.val < 0) (Nat.not_lt_zero _)
  iintro H
  iapply (Scf.wp_for frame (wpE (defs₀ (F := F)) Variants.none (c : Thread nD τ) none) E _ _ _ hok ⟨⟩ _ (fun n _ => K ⟨⟩) hb)
  isplitl [H]
  · iexact H
  iintro %u H
  iexact H

theorem wp_at {P : sProp 𝕄} {p p' : Prog (TpuEff nD τ sig (Elt F) Λ₀ .tc) PUnit} {K : PUnit → sProp 𝕄} (h : p = p')
    (H : Entails' P (wp frame (wpE (defs₀ (F := F)) Variants.none (c : Thread nD τ) none) E p' K)) :
    Entails' P (wp frame (wpE (defs₀ (F := F)) Variants.none (c : Thread nD τ) none) E p K) := h ▸ H

theorem body_mid (h3 : ¬ k0_cond3 i = 1#1) (x10 : Vec F S1024x1024 .f32) (P Q : sProp 𝕄) (acc : Vec F S1024x1024 .f32)
    (h4 : ∀ K : (Σ' (arg1 : BitVec 32) (v10 : FVec F S1024x1 .f32) (v12 : Vec F S1x1024 .f32) (v14 : Vec F S1x1024 .f32) (v23 : BitVec 32) (k0_hw1 : k0_chk1 v23) (v24 : Vec F S1024x1024 .bf16) (c256_i32 : BitVec 32) (v25 : BitVec 32), BitVec 1) → sProp 𝕄, iprop(P ∗ (iprop(Q ∗ owns (c : Thread nD τ) arg13 fullShare acc) -∗ K (head' i v10 v12 v14 x0))) ⊢ wp frame (wpE (defs₀ (F := F)) Variants.none (c : Thread nD τ) none) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K)
    (K : PUnit → sProp 𝕄) :
    iprop(P ∗ owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
      ∗ (iprop(Q ∗ owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (accAt v10 v12 v14 x0 x1 x2 x3 acc)) -∗ K ⟨⟩))
    ⊢ wp frame (wpE (defs₀ (F := F)) Variants.none (c : Thread nD τ) none) E (cc0_moe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_moe_eq_skeleton]; unfold cc0_moe_skel
  rw [wp_bind]
  iintro ⟨HP, H3, H4, H5, H8, H9, H10, H11, H12, Hk⟩
  iapply h4
  isplitl [HP]
  · iexact HP
  iintro ⟨HQ, H13⟩
  refine wp_at c E (p' := Scf.Loop.for (k0_t1_loop (cnt v12)) (k0_t1_ok (cnt v12) (cnt_facts v12).1) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 (cnt v12) (cnt_facts v12).1 x0) >>= fun _ =>
    Scf.Loop.for (k0_t2_loop (cnt v12)) (k0_t2_ok (cnt v12) (cnt_facts v12).1) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 (cnt v12) (cnt_facts v12).1 x0 _) >>= fun _ =>
    rest i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 x0 (nfull (cnt v12)) (half (cnt v12))) rfl ?_
  rw [wp_bind]
  iapply loop1
  isplitl [H3]
  · iexact H3
  isplitl [H4]
  · iexact H4
  isplitl [H5]
  · iexact H5
  isplitl [H13]
  · iexact H13
  iintro ⟨H3, H4, H5, H13⟩
  rw [wp_bind]
  iapply loop2
  by_cases hh : half (cnt v12) = 1#1
  · rw [accAt, if_pos hh]
    iapply (rest_hn c E hh h3 _ _)
    isplitl [H3]
    · iexact H3
    isplitl [H4]
    · iexact H4
    isplitl [H5]
    · iexact H5
    isplitl [H8]
    · iexact H8
    isplitl [H9]
    · iexact H9
    isplitl [H10]
    · iexact H10
    isplitl [H11]
    · iexact H11
    isplitl [H12]
    · iexact H12
    isplitl [H13]
    · iexact H13
    iintro H
    iapply Hk
    isplitl [HQ]
    · iexact HQ
    iexact H
  · rw [accAt, if_neg hh]
    iapply (rest_nn c E hh h3 _ _)
    isplitl [H3]
    · iexact H3
    isplitl [H4]
    · iexact H4
    isplitl [H5]
    · iexact H5
    isplitl [H8]
    · iexact H8
    isplitl [H9]
    · iexact H9
    isplitl [H10]
    · iexact H10
    isplitl [H11]
    · iexact H11
    isplitl [H12]
    · iexact H12
    isplitl [H13]
    · iexact H13
    iintro H
    iapply Hk
    isplitl [HQ]
    · iexact HQ
    iexact H

theorem body_last (h3 : k0_cond3 i = 1#1) (P Q : sProp 𝕄) (acc : Vec F S1024x1024 .f32)
    (h4 : ∀ K : (Σ' (arg1 : BitVec 32) (v10 : FVec F S1024x1 .f32) (v12 : Vec F S1x1024 .f32) (v14 : Vec F S1x1024 .f32) (v23 : BitVec 32) (k0_hw1 : k0_chk1 v23) (v24 : Vec F S1024x1024 .bf16) (c256_i32 : BitVec 32) (v25 : BitVec 32), BitVec 1) → sProp 𝕄, iprop(P ∗ (iprop(Q ∗ owns (c : Thread nD τ) arg13 fullShare acc) -∗ K (head' i v10 v12 v14 x0))) ⊢ wp frame (wpE (defs₀ (F := F)) Variants.none (c : Thread nD τ) none) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K)
    (K : PUnit → sProp 𝕄) :
    iprop(P ∗ owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
      ∗ (iprop(Q ∗ owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k0_pay4 x6 x7 (accAt v10 v12 v14 x0 x1 x2 x3 acc) x8 x9) ∗ owns (c : Thread nD τ) arg13 fullShare (accAt v10 v12 v14 x0 x1 x2 x3 acc)) -∗ K ⟨⟩))
    ⊢ wp frame (wpE (defs₀ (F := F)) Variants.none (c : Thread nD τ) none) E (cc0_moe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_moe_eq_skeleton]; unfold cc0_moe_skel
  rw [wp_bind]
  iintro ⟨HP, H3, H4, H5, H8, H9, H10, H11, H12, Hk⟩
  iapply h4
  isplitl [HP]
  · iexact HP
  iintro ⟨HQ, H13⟩
  refine wp_at c E (p' := Scf.Loop.for (k0_t1_loop (cnt v12)) (k0_t1_ok (cnt v12) (cnt_facts v12).1) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 (cnt v12) (cnt_facts v12).1 x0) >>= fun _ =>
    Scf.Loop.for (k0_t2_loop (cnt v12)) (k0_t2_ok (cnt v12) (cnt_facts v12).1) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 (cnt v12) (cnt_facts v12).1 x0 _) >>= fun _ =>
    rest i arg2 harg2 arg3 harg3 arg4 harg4 arg5 harg5 arg6 harg6 arg7 harg7 arg8 harg8 arg9 harg9 arg10 harg10 arg11 harg11 arg12 harg12 arg13 harg13 arg14 harg14 arg15 harg15 arg16 harg16 v10 v12 v14 x0 (nfull (cnt v12)) (half (cnt v12))) rfl ?_
  rw [wp_bind]
  iapply loop1
  isplitl [H3]
  · iexact H3
  isplitl [H4]
  · iexact H4
  isplitl [H5]
  · iexact H5
  isplitl [H13]
  · iexact H13
  iintro ⟨H3, H4, H5, H13⟩
  rw [wp_bind]
  iapply loop2
  by_cases hh : half (cnt v12) = 1#1
  · rw [accAt, if_pos hh]
    iapply (rest_hl c E hh h3 _ _)
    isplitl [H3]
    · iexact H3
    isplitl [H4]
    · iexact H4
    isplitl [H5]
    · iexact H5
    isplitl [H8]
    · iexact H8
    isplitl [H9]
    · iexact H9
    isplitl [H10]
    · iexact H10
    isplitl [H11]
    · iexact H11
    isplitl [H12]
    · iexact H12
    isplitl [H13]
    · iexact H13
    iintro H
    iapply Hk
    isplitl [HQ]
    · iexact HQ
    iexact H
  · rw [accAt, if_neg hh]
    iapply (rest_nl c E hh h3 _ _)
    isplitl [H3]
    · iexact H3
    isplitl [H4]
    · iexact H4
    isplitl [H5]
    · iexact H5
    isplitl [H8]
    · iexact H8
    isplitl [H9]
    · iexact H9
    isplitl [H10]
    · iexact H10
    isplitl [H11]
    · iexact H11
    isplitl [H12]
    · iexact H12
    isplitl [H13]
    · iexact H13
    iintro H
    iapply Hk
    isplitl [HQ]
    · iexact HQ
    iexact H

end Cert.KernelIdeal.Moe
end
-- ==== Proof.MoeFrame.lean ====
/- The run of the expert kernel over its whole grid: what the sum and the rank tables hold after each point, and the launch. -/
module

public import proofs.«01_k».proof.Proof.MoeBody
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.WordCmp
public import Idealize.ShloMosaic.Lib.Claim
@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points are the first and the last of a token block -/

theorem first_iff (t : Fin cfg0.N) : first (grid0.coords t) = 1#1 ↔ t.val % 8 = 0 := by
  have ht : t.val < 128 := Nat.lt_of_lt_of_eq t.isLt N_0
  have e1 : (grid0.coords t 1).val = t.val / 1 % 8 := Pipeline.Grid.coords_val t 1 (by decide) rfl
  simp only [first, e1]
  word_cmp

theorem last_iff (t : Fin cfg0.N) : k0_cond3 (grid0.coords t) = 1#1 ↔ t.val % 8 = 7 := by
  have ht : t.val < 128 := Nat.lt_of_lt_of_eq t.isLt N_0
  have e1 : (grid0.coords t 1).val = t.val / 1 % 8 := Pipeline.Grid.coords_val t 1 (by decide) rfl
  simp only [k0_cond3, e1]
  word_cmp

theorem idle10 : ∀ t : Fin cfg0.N, ¬ t.val % 8 = 7 → cfg0.idle 10 (grid0.coords t) = true := by decide +kernel
theorem live10 : ∀ t : Fin cfg0.N, t.val % 8 = 7 → cfg0.idle 10 (grid0.coords t) = false := by decide +kernel
theorem noFlush10 (t : Fin cfg0.N) (h : ¬ t.val % 8 = 7) : (cfg0.win 10).flush t = false := by
  cases hf : (cfg0.win 10).flush t with
  | false => rfl
  | true => exact absurd ((flush0_10 t).mp hf) h

/-! ## What the scratch holds -/

/-- The four arrays kept from one point to the next: the sum, the ranks by token, the ranks and the gates by expert. -/
abbrev St (F : FTy → Type) : Type := Vec F S1024x1024 .f32 × Vec F S1024x128 .f32 × Vec F S128x1024 .f32 × Vec F S128x1024 .f32

abbrev sc0 : Memref sig .tc .vmem S1024x1024 .f32 := Memref.whole cc0_scratch0
abbrev sc1 : Memref sig .tc .vmem S1024x128 .f32 := Memref.whole cc0_scratch1
abbrev sc2 : Memref sig .tc .vmem S128x1024 .f32 := Memref.whole cc0_scratch2
abbrev sc3 : Memref sig .tc .vmem S128x1024 .f32 := Memref.whole cc0_scratch3

/-- At the first expert of a token block the scratch is set up anew. -/
def start (c : Dev nD) (t : Fin cfg0.N) (p : St F) : St F :=
  if t.val % 8 = 0 then (k0_pay11, k0_pay14 (iblk m c 4 t) (iblk m c 5 t), k0_pay15 (iblk m c 4 t) (iblk m c 5 t), k0_pay16 (iblk m c 4 t)) else p

/-- One expert added to the sum. -/
def advance (c : Dev nD) (t : Fin cfg0.N) (q : St F) : St F :=
  (accAt (k0_pay17 (grid0.coords t) q.2.1) (row (grid0.coords t) q.2.2.1) (row (grid0.coords t) q.2.2.2) (iblk m c 0 t) (iblk m c 1 t) (iblk m c 2 t) (iblk m c 3 t) q.1, q.2)

/-- The scratch after point `n`. -/
def stateAt (c : Dev nD) : (n : ℕ) → n < cfg0.N → St F
  | 0, hn => advance m c ⟨0, hn⟩ (start m c ⟨0, hn⟩ (k0_pay11, k0_pay14 (iblk m c 4 ⟨0, hn⟩) (iblk m c 5 ⟨0, hn⟩), k0_pay15 (iblk m c 4 ⟨0, hn⟩) (iblk m c 5 ⟨0, hn⟩), k0_pay16 (iblk m c 4 ⟨0, hn⟩)))
  | n + 1, hn => advance m c ⟨n + 1, hn⟩ (start m c ⟨n + 1, hn⟩ (stateAt c n (Nat.lt_of_succ_lt hn)))

theorem stateAt_first (c : Dev nD) (t : Fin cfg0.N) (h : t.val % 8 = 0) :
    stateAt m c t.val t.isLt = advance m c t (k0_pay11, k0_pay14 (iblk m c 4 t) (iblk m c 5 t), k0_pay15 (iblk m c 4 t) (iblk m c 5 t), k0_pay16 (iblk m c 4 t)) := by
  obtain ⟨n, hn⟩ := t
  cases n with
  | zero => rw [stateAt, start, if_pos h]
  | succ n => rw [stateAt, start, if_pos h]

theorem stateAt_later (c : Dev nD) (t : Fin cfg0.N) (h : ¬ t.val % 8 = 0) :
    stateAt m c t.val t.isLt = advance m c t (stateAt m c (t.val - 1) (by omega)) := by
  obtain ⟨n, hn⟩ := t
  cases n with
  | zero => exact absurd (Nat.zero_mod _) h
  | succ n => rw [stateAt, start, if_neg h]; rfl

/-- The block written back at the last expert. -/
def outAt (c : Dev nD) (t : Fin cfg0.N) : Vec F S1024x1024 .f32 :=
  k0_pay4 (iblk m c 6 t) (iblk m c 7 t) (stateAt m c t.val t.isLt).1 (iblk m c 8 t) (iblk m c 9 t)

/-- The scratch and the generator register before point `n`. -/
def PhiS (c : Dev nD) : (n : ℕ) → n ≤ cfg0.N → sProp 𝕄
  | 0, _ => Pipeline.ΦA spec0 c
  | n + 1, hn => iprop(iprop(owns (c : Thread nD τ) sc0 fullShare (stateAt m c n hn).1 ∗ owns (c : Thread nD τ) sc1 fullShare (stateAt m c n hn).2.1 ∗ owns (c : Thread nD τ) sc2 fullShare (stateAt m c n hn).2.2.1 ∗ owns (c : Thread nD τ) sc3 fullShare (stateAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = iprop(iprop(owns (c : Thread nD τ) sc0 fullShare (stateAt m c n hn).1 ∗ owns (c : Thread nD τ) sc1 fullShare (stateAt m c n hn).2.1 ∗ owns (c : Thread nD τ) sc2 fullShare (stateAt m c n hn).2.2.1 ∗ owns (c : Thread nD τ) sc3 fullShare (stateAt m c n hn).2.2.2) ∗ (∃ r, prngReg c r)) := rfl

theorem PhiS_pos (c : Dev nD) (n : ℕ) (h : n ≤ cfg0.N) (hz : n ≠ 0) : PhiS m c n h = iprop(iprop(owns (c : Thread nD τ) sc0 fullShare (stateAt m c (n - 1) (by omega)).1 ∗ owns (c : Thread nD τ) sc1 fullShare (stateAt m c (n - 1) (by omega)).2.1 ∗ owns (c : Thread nD τ) sc2 fullShare (stateAt m c (n - 1) (by omega)).2.2.1 ∗ owns (c : Thread nD τ) sc3 fullShare (stateAt m c (n - 1) (by omega)).2.2.2) ∗ (∃ r, prngReg c r)) := by
  cases n with
  | zero => exact absurd rfl hz
  | succ n => rfl

theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- What each array holds when the pipeline starts, and what each staging buffer holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem leaves0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after7]
theorem leaves8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after8]
theorem leaves9 (c : Dev nD) (t : Fin cfg0.N) : (dats m 0 c).leavesExact 9 t = owns (c : Thread nD τ) (st0_9 t) fullShare (iblk m c 9 t) := by
  unfold Dat.leavesExact; rw [show cfg0.idle 9 (grid0.coords t) = false from rfl, after9]

/-- What the body finds at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem sound_first (c : Dev nD) (t : Fin cfg0.N) (h0 : t.val % 8 = 0) :
    bodyPre m c t ⊢ wp frame (wpE (defs₀ (F := F)) Variants.none (c : Thread nD τ) none) Set.univ (bodyAt0 t) (fun _ => bodyPost m c t) := by
  unfold bodyPre bodyPost
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9]
  have h1 : ¬ t.val % 8 = 7 := by omega
  rw [Dat.leavesExact_idle (dats m 0 c) 10 t (idle10 t h1) (noFlush10 t h1)]
  rw [stateAt_first m c t h0]
  unfold advance; dsimp only
  by_cases hz : t.val = 0
  · rw [PhiS_castSucc m c t, PhiS_zero m c _ _ hz, PhiA_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_mid (x0 := iblk m c 0 t) (v10 := k0_pay17 (grid0.coords t) ((k0_pay14 (iblk m c 4 t) (iblk m c 5 t)))) (v12 := row (grid0.coords t) ((k0_pay15 (iblk m c 4 t) (iblk m c 5 t)))) (v14 := row (grid0.coords t) ((k0_pay16 (iblk m c 4 t)))) c Set.univ (mt (last_iff t).mp h1) _ (iprop(owns (c : Thread nD τ) (st0_0 t) fullShare (iblk m c 0 t) ∗ owns (c : Thread nD τ) (st0_4 t) fullShare (iblk m c 4 t) ∗ owns (c : Thread nD τ) (st0_5 t) fullShare (iblk m c 5 t) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d))) (iprop(owns (c : Thread nD τ) (st0_0 t) fullShare (iblk m c 0 t) ∗ owns (c : Thread nD τ) (st0_4 t) fullShare (iblk m c 4 t) ∗ owns (c : Thread nD τ) (st0_5 t) fullShare (iblk m c 5 t) ∗ owns (c : Thread nD τ) sc1 fullShare (k0_pay14 (iblk m c 4 t) (iblk m c 5 t)) ∗ owns (c : Thread nD τ) sc2 fullShare (k0_pay15 (iblk m c 4 t) (iblk m c 5 t)) ∗ owns (c : Thread nD τ) sc3 fullShare (k0_pay16 (iblk m c 4 t)))) (k0_pay11) ?h4 _)
    case h4 =>
      intro K
      rw [← show head _ _ _ _ _ = head' _ _ _ _ _ from rfl]
      iintro ⟨⟨H0, H4, H5, HS0, HS1, HS2, HS3⟩, Hk⟩
      iapply (part4_first c Set.univ ((first_iff t).mpr h0) K)
      isplitl [H0]; · iexact H0
      isplitl [H4]; · iexact H4
      isplitl [H5]; · iexact H5
      isplitl [HS0]; · iexact HS0
      isplitl [HS1]; · iexact HS1
      isplitl [HS2]; · iexact HS2
      isplitl [HS3]; · iexact HS3
      iintro ⟨H0, H4, H5, HS0, HS1, HS2, HS3⟩
      iapply Hk
      isplitl [H0 H4 H5 HS1 HS2 HS3]
      · isplitl [H0]; · iexact H0
        isplitl [H4]; · iexact H4
        isplitl [H5]; · iexact H5
        isplitl [HS1]; · iexact HS1
        isplitl [HS2]; · iexact HS2
        iexact HS3
      iexact HS0
    isplitl [H0 H4 H5 HS0 HS1 HS2 HS3]
    · isplitl [H0]; · iexact H0
      isplitl [H4]; · iexact H4
      isplitl [H5]; · iexact H5
      isplitl [HS0]; · iexact HS0
      isplitl [HS1]; · iexact HS1
      isplitl [HS2]; · iexact HS2
      iexact HS3
    isplitl [H1]; · iexact H1
    isplitl [H2]; · iexact H2
    isplitl [H3]; · iexact H3
    isplitl [H6]; · iexact H6
    isplitl [H7]; · iexact H7
    isplitl [H8]; · iexact H8
    isplitl [H9]; · iexact H9
    isplitl [H10]; · iexact H10
    iintro ⟨⟨H0, H4, H5, HS1, HS2, HS3⟩, H1, H2, H3, H6, H7, H8, H9, H10, HS0⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_mid (x0 := iblk m c 0 t) (v10 := k0_pay17 (grid0.coords t) ((k0_pay14 (iblk m c 4 t) (iblk m c 5 t)))) (v12 := row (grid0.coords t) ((k0_pay15 (iblk m c 4 t) (iblk m c 5 t)))) (v14 := row (grid0.coords t) ((k0_pay16 (iblk m c 4 t)))) c Set.univ (mt (last_iff t).mp h1) _ (iprop(owns (c : Thread nD τ) (st0_0 t) fullShare (iblk m c 0 t) ∗ owns (c : Thread nD τ) (st0_4 t) fullShare (iblk m c 4 t) ∗ owns (c : Thread nD τ) (st0_5 t) fullShare (iblk m c 5 t) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d))) (iprop(owns (c : Thread nD τ) (st0_0 t) fullShare (iblk m c 0 t) ∗ owns (c : Thread nD τ) (st0_4 t) fullShare (iblk m c 4 t) ∗ owns (c : Thread nD τ) (st0_5 t) fullShare (iblk m c 5 t) ∗ owns (c : Thread nD τ) sc1 fullShare (k0_pay14 (iblk m c 4 t) (iblk m c 5 t)) ∗ owns (c : Thread nD τ) sc2 fullShare (k0_pay15 (iblk m c 4 t) (iblk m c 5 t)) ∗ owns (c : Thread nD τ) sc3 fullShare (k0_pay16 (iblk m c 4 t)))) (k0_pay11) ?h4 _)
    case h4 =>
      intro K
      rw [← show head _ _ _ _ _ = head' _ _ _ _ _ from rfl]
      iintro ⟨⟨H0, H4, H5, HS0, HS1, HS2, HS3⟩, Hk⟩
      iapply (part4_first c Set.univ ((first_iff t).mpr h0) K)
      isplitl [H0]; · iexact H0
      isplitl [H4]; · iexact H4
      isplitl [H5]; · iexact H5
      isplitl [HS0]; · iexact HS0
      isplitl [HS1]; · iexact HS1
      isplitl [HS2]; · iexact HS2
      isplitl [HS3]; · iexact HS3
      iintro ⟨H0, H4, H5, HS0, HS1, HS2, HS3⟩
      iapply Hk
      isplitl [H0 H4 H5 HS1 HS2 HS3]
      · isplitl [H0]; · iexact H0
        isplitl [H4]; · iexact H4
        isplitl [H5]; · iexact H5
        isplitl [HS1]; · iexact HS1
        isplitl [HS2]; · iexact HS2
        iexact HS3
      iexact HS0
    isplitl [H0 H4 H5 HS0 HS1 HS2 HS3]
    · isplitl [H0]; · iexact H0
      isplitl [H4]; · iexact H4
      isplitl [H5]; · iexact H5
      isplitl [HS0]; · iexists _; iexact HS0
      isplitl [HS1]; · iexists _; iexact HS1
      isplitl [HS2]; · iexists _; iexact HS2
      iexists _; iexact HS3
    isplitl [H1]; · iexact H1
    isplitl [H2]; · iexact H2
    isplitl [H3]; · iexact H3
    isplitl [H6]; · iexact H6
    isplitl [H7]; · iexact H7
    isplitl [H8]; · iexact H8
    isplitl [H9]; · iexact H9
    isplitl [H10]; · iexact H10
    iintro ⟨⟨H0, H4, H5, HS1, HS2, HS3⟩, H1, H2, H3, H6, H7, H8, H9, H10, HS0⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10

theorem sound_mid (c : Dev nD) (t : Fin cfg0.N) (h0 : ¬ t.val % 8 = 0) (h1 : ¬ t.val % 8 = 7) :
    bodyPre m c t ⊢ wp frame (wpE (defs₀ (F := F)) Variants.none (c : Thread nD τ) none) Set.univ (bodyAt0 t) (fun _ => bodyPost m c t) := by
  unfold bodyPre bodyPost
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9]
  have hz : t.val ≠ 0 := by omega
  rw [Dat.leavesExact_idle (dats m 0 c) 10 t (idle10 t h1) (noFlush10 t h1)]
  rw [stateAt_later m c t h0]
  unfold advance; dsimp only
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_mid (x0 := iblk m c 0 t) (v10 := k0_pay17 (grid0.coords t) ((stateAt m c (t.val - 1) (by omega)).2.1)) (v12 := row (grid0.coords t) ((stateAt m c (t.val - 1) (by omega)).2.2.1)) (v14 := row (grid0.coords t) ((stateAt m c (t.val - 1) (by omega)).2.2.2)) c Set.univ (mt (last_iff t).mp h1) _ (iprop(owns (c : Thread nD τ) (st0_0 t) fullShare (iblk m c 0 t) ∗ owns (c : Thread nD τ) (st0_4 t) fullShare (iblk m c 4 t) ∗ owns (c : Thread nD τ) (st0_5 t) fullShare (iblk m c 5 t) ∗ owns (c : Thread nD τ) sc0 fullShare (stateAt m c (t.val - 1) (by omega)).1 ∗ owns (c : Thread nD τ) sc1 fullShare (stateAt m c (t.val - 1) (by omega)).2.1 ∗ owns (c : Thread nD τ) sc2 fullShare (stateAt m c (t.val - 1) (by omega)).2.2.1 ∗ owns (c : Thread nD τ) sc3 fullShare (stateAt m c (t.val - 1) (by omega)).2.2.2)) (iprop(owns (c : Thread nD τ) (st0_0 t) fullShare (iblk m c 0 t) ∗ owns (c : Thread nD τ) (st0_4 t) fullShare (iblk m c 4 t) ∗ owns (c : Thread nD τ) (st0_5 t) fullShare (iblk m c 5 t) ∗ owns (c : Thread nD τ) sc1 fullShare (stateAt m c (t.val - 1) (by omega)).2.1 ∗ owns (c : Thread nD τ) sc2 fullShare (stateAt m c (t.val - 1) (by omega)).2.2.1 ∗ owns (c : Thread nD τ) sc3 fullShare (stateAt m c (t.val - 1) (by omega)).2.2.2)) (stateAt m c (t.val - 1) (by omega)).1 ?h4 _)
  case h4 =>
    intro K
    rw [← show head _ _ _ _ _ = head' _ _ _ _ _ from rfl]
    iintro ⟨⟨H0, H4, H5, HS0, HS1, HS2, HS3⟩, Hk⟩
    iapply (part4_later c Set.univ (mt (first_iff t).mp h0) ((stateAt m c (t.val - 1) (by omega)).1) ((stateAt m c (t.val - 1) (by omega)).2.1) ((stateAt m c (t.val - 1) (by omega)).2.2.1) ((stateAt m c (t.val - 1) (by omega)).2.2.2) K)
    isplitl [H0]; · iexact H0
    isplitl [H4]; · iexact H4
    isplitl [H5]; · iexact H5
    isplitl [HS0]; · iexact HS0
    isplitl [HS1]; · iexact HS1
    isplitl [HS2]; · iexact HS2
    isplitl [HS3]; · iexact HS3
    iintro ⟨H0, H4, H5, HS0, HS1, HS2, HS3⟩
    iapply Hk
    isplitl [H0 H4 H5 HS1 HS2 HS3]
    · isplitl [H0]; · iexact H0
      isplitl [H4]; · iexact H4
      isplitl [H5]; · iexact H5
      isplitl [HS1]; · iexact HS1
      isplitl [HS2]; · iexact HS2
      iexact HS3
    iexact HS0
  isplitl [H0 H4 H5 HS0 HS1 HS2 HS3]
  · isplitl [H0]; · iexact H0
    isplitl [H4]; · iexact H4
    isplitl [H5]; · iexact H5
    isplitl [HS0]; · iexact HS0
    isplitl [HS1]; · iexact HS1
    isplitl [HS2]; · iexact HS2
    iexact HS3
  isplitl [H1]; · iexact H1
  isplitl [H2]; · iexact H2
  isplitl [H3]; · iexact H3
  isplitl [H6]; · iexact H6
  isplitl [H7]; · iexact H7
  isplitl [H8]; · iexact H8
  isplitl [H9]; · iexact H9
  isplitl [H10]; · iexact H10
  iintro ⟨⟨H0, H4, H5, HS1, HS2, HS3⟩, H1, H2, H3, H6, H7, H8, H9, H10, HS0⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

theorem sound_last (c : Dev nD) (t : Fin cfg0.N) (h1 : t.val % 8 = 7) :
    bodyPre m c t ⊢ wp frame (wpE (defs₀ (F := F)) Variants.none (c : Thread nD τ) none) Set.univ (bodyAt0 t) (fun _ => bodyPost m c t) := by
  unfold bodyPre bodyPost
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9]
  have h0 : ¬ t.val % 8 = 0 := by omega
  have hz : t.val ≠ 0 := by omega
  rw [show (dats m 0 c).leavesExact 10 t = owns (c : Thread nD τ) (st0_10 t) fullShare (outAt m c t) from by
    unfold Dat.leavesExact; rw [live10 t h1, after10]]
  unfold outAt
  rw [stateAt_later m c t h0]
  unfold advance; dsimp only
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_last (x0 := iblk m c 0 t) (v10 := k0_pay17 (grid0.coords t) ((stateAt m c (t.val - 1) (by omega)).2.1)) (v12 := row (grid0.coords t) ((stateAt m c (t.val - 1) (by omega)).2.2.1)) (v14 := row (grid0.coords t) ((stateAt m c (t.val - 1) (by omega)).2.2.2)) c Set.univ ((last_iff t).mpr h1) (iprop(owns (c : Thread nD τ) (st0_0 t) fullShare (iblk m c 0 t) ∗ owns (c : Thread nD τ) (st0_4 t) fullShare (iblk m c 4 t) ∗ owns (c : Thread nD τ) (st0_5 t) fullShare (iblk m c 5 t) ∗ owns (c : Thread nD τ) sc0 fullShare (stateAt m c (t.val - 1) (by omega)).1 ∗ owns (c : Thread nD τ) sc1 fullShare (stateAt m c (t.val - 1) (by omega)).2.1 ∗ owns (c : Thread nD τ) sc2 fullShare (stateAt m c (t.val - 1) (by omega)).2.2.1 ∗ owns (c : Thread nD τ) sc3 fullShare (stateAt m c (t.val - 1) (by omega)).2.2.2)) (iprop(owns (c : Thread nD τ) (st0_0 t) fullShare (iblk m c 0 t) ∗ owns (c : Thread nD τ) (st0_4 t) fullShare (iblk m c 4 t) ∗ owns (c : Thread nD τ) (st0_5 t) fullShare (iblk m c 5 t) ∗ owns (c : Thread nD τ) sc1 fullShare (stateAt m c (t.val - 1) (by omega)).2.1 ∗ owns (c : Thread nD τ) sc2 fullShare (stateAt m c (t.val - 1) (by omega)).2.2.1 ∗ owns (c : Thread nD τ) sc3 fullShare (stateAt m c (t.val - 1) (by omega)).2.2.2)) (stateAt m c (t.val - 1) (by omega)).1 ?h4 _)
  case h4 =>
    intro K
    rw [← show head _ _ _ _ _ = head' _ _ _ _ _ from rfl]
    iintro ⟨⟨H0, H4, H5, HS0, HS1, HS2, HS3⟩, Hk⟩
    iapply (part4_later c Set.univ (mt (first_iff t).mp h0) ((stateAt m c (t.val - 1) (by omega)).1) ((stateAt m c (t.val - 1) (by omega)).2.1) ((stateAt m c (t.val - 1) (by omega)).2.2.1) ((stateAt m c (t.val - 1) (by omega)).2.2.2) K)
    isplitl [H0]; · iexact H0
    isplitl [H4]; · iexact H4
    isplitl [H5]; · iexact H5
    isplitl [HS0]; · iexact HS0
    isplitl [HS1]; · iexact HS1
    isplitl [HS2]; · iexact HS2
    isplitl [HS3]; · iexact HS3
    iintro ⟨H0, H4, H5, HS0, HS1, HS2, HS3⟩
    iapply Hk
    isplitl [H0 H4 H5 HS1 HS2 HS3]
    · isplitl [H0]; · iexact H0
      isplitl [H4]; · iexact H4
      isplitl [H5]; · iexact H5
      isplitl [HS1]; · iexact HS1
      isplitl [HS2]; · iexact HS2
      iexact HS3
    iexact HS0
  isplitl [H0 H4 H5 HS0 HS1 HS2 HS3]
  · isplitl [H0]; · iexact H0
    isplitl [H4]; · iexact H4
    isplitl [H5]; · iexact H5
    isplitl [HS0]; · iexact HS0
    isplitl [HS1]; · iexact HS1
    isplitl [HS2]; · iexact HS2
    iexact HS3
  isplitl [H1]; · iexact H1
  isplitl [H2]; · iexact H2
  isplitl [H3]; · iexact H3
  isplitl [H6]; · iexact H6
  isplitl [H7]; · iexact H7
  isplitl [H8]; · iexact H8
  isplitl [H9]; · iexact H9
  isplitl [H10]; · iexists _; iexact H10
  iintro ⟨⟨H0, H4, H5, HS1, HS2, HS3⟩, H1, H2, H3, H6, H7, H8, H9, H10, HS0⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem sound (c : Dev nD) (t : Fin cfg0.N) :
    bodyPre m c t ⊢ wp frame (wpE (defs₀ (F := F)) Variants.none (c : Thread nD τ) none) Set.univ (bodyAt0 t) (fun _ => bodyPost m c t) := by
  by_cases h0 : t.val % 8 = 0
  · exact sound_first m c t h0
  · by_cases h1 : t.val % 8 = 7
    · exact sound_last m c t h1
    · exact sound_mid m c t h0 h1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N le_rfl from rfl, PhiS_pos m c _ _ (by have : cfg0.N = 128 := N_0; omega), PhiA_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
/-- The launch: every execution ends with each array at what the points wrote into it, and no counter left up. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_quiescent m ρ)

/-- The frame: the arguments end as they were, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_post m ρ)) ((θ_run defs _ _).mono (fun _ h => h.2) (run_quiescent m ρ))

end Cert.KernelIdeal.Moe

end
-- ==== Proof.MoeSame.lean ====
/- The frames of the three programs: the printed kernel is the same program over words as the ideal one is over extended reals. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.MoeFrame
public import Idealize.ShloMosaic.Adequacy

@[expose] public section

set_option maxRecDepth 16384

noncomputable section

namespace Cert.Proof

open Idealize.ShloMosaic Idealize.SL.Sem

/-- The two kernel bodies are one program. -/
theorem body_same : (Cert.Kernel.cc0_moe (F := Bits)) = Cert.KernelIdeal.cc0_moe (F := Bits) := rfl

set_option maxHeartbeats 8000000 in
/-- So are the tables that name them. -/
theorem table_same : (Cert.Kernel.defs₀ (F := Bits)) = Cert.KernelIdeal.defs₀ (F := Bits) := by
  unfold Cert.Kernel.defs₀ Cert.KernelIdeal.defs₀
  refine congrArg Defs.onTc ?_
  funext ℓ a
  match ℓ, a with
  | 0, (t, s) =>
    dsimp only
    rw [body_same]
    rfl

/-- And the whole programs. -/
theorem defs_same : (Cert.Kernel.defs (F := Bits)) = Cert.KernelIdeal.defs (F := Bits) := by
  show Pipeline.defs Cert.KernelIdeal.pcfgs (Cert.Kernel.defs₀ (F := Bits)) = Pipeline.defs Cert.KernelIdeal.pcfgs Cert.KernelIdeal.defs₀
  rw [table_same]

theorem frame_Kernel : Cert.quiescent_Kernel := fun m ρ _ => by
  have h := Cert.KernelIdeal.Moe.frame (F := Bits) m ρ
  rw [← defs_same] at h
  exact h

theorem frame_KernelIdeal : Cert.quiescent_KernelIdeal := fun m ρ _ => Cert.KernelIdeal.Moe.frame (F := Ideal) m ρ

theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.MoeExpert.lean ====
/- What one expert adds to a block of tokens, over the extended reals: a token the router gave this
   expert gets the expert's feed-forward value of its row times its gate, every other token nothing. -/
module

public import proofs.«01_k».proof.Proof.MoeBody
public import Idealize.ShloMosaic.Lib.Pointwise

@[expose] public section

set_option maxRecDepth 16384

noncomputable section

namespace Cert.KernelIdeal.Moe

open Idealize.ShloMosaic Idealize.SL.Sem
open Cert.KernelIdeal.Gen

/-! ## Words and numbers -/

theorem toInt_word (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

theorem mul_word (k : ℕ) : BitVec.ofNat 32 k * 256#32 = BitVec.ofNat 32 (256 * k) := by
  apply BitVec.eq_of_toNat_eq
  simp only [BitVec.toNat_mul, BitVec.toNat_ofNat]
  omega

theorem iv_word (k : ℕ) : Scf.iv 0#32 1#32 k = BitVec.ofNat 32 k := by
  apply BitVec.eq_of_toNat_eq
  simp only [Scf.iv, BitVec.toNat_add, BitVec.toNat_mul, BitVec.toNat_ofNat]
  omega

theorem number (w : BitVec 32) : (FloatOps.sitofp FTy.f32 w : Ideal .f32) = ((w.toInt : ℝ) : EReal) := rfl

/-- The sum of a position in a pass and the pass's first rank. -/
theorem number_add (s k : ℕ) (hs : s < 2 ^ 20) (hk : k < 2 ^ 20) :
    ((FloatOps.sitofp FTy.f32 (BitVec.ofNat 32 s) : Ideal .f32) : EReal) + (((BitVec.ofNat 32 (256 * k)).toInt : ℝ) : EReal)
      = (((s + 256 * k : ℕ) : ℝ) : EReal) := by
  rw [number, toInt_word _ (by omega), toInt_word _ (by omega), ← EReal.coe_add]
  norm_num

theorem base1 (w : BitVec 32) (k : Fin (k0_t1_loop w).trips) :
    k0_pay5 (F := Ideal) w 0#32 1#32 k = (((BitVec.ofNat 32 (256 * k.val)).toInt : ℝ) : EReal) := by
  show ((((Scf.iv 0#32 1#32 k.val) * 256#32 : BitVec 32).toInt : ℝ) : EReal) = _
  rw [iv_word, mul_word]

theorem base2 (n : ℕ) : k0_pay9 (F := Ideal) (BitVec.ofNat 32 n) = (((BitVec.ofNat 32 (256 * n)).toInt : ℝ) : EReal) := by
  show ((((BitVec.ofNat 32 n) * 256#32 : BitVec 32).toInt : ℝ) : EReal) = _
  rw [mul_word]

/-! ## The expert's feed-forward value of a row -/

/-- `a` times its logistic function, spelled as the program spells it. -/
def act (a : EReal) : EReal := a * Ideal.div 1 (1 + Ideal.exp (0 - a))

/-- The expert's feed-forward value of the row `U`, at column `d`. -/
def ffn (U : Fin 1024 → EReal) (x1 x2 : FVec Ideal S1x1024x1408 .bf16) (x3 : FVec Ideal S1x1408x1024 .bf16) (d : Fin 1024) : EReal :=
  ∑ f : Fin 1408, act (∑ j, U j * x1 (ix3 0 j f)) * (∑ j, U j * x2 (ix3 0 j f)) * x3 (ix3 0 f d)

theorem pay6_apply (v12 v14 : FVec Ideal S1x1024 .f32) (w : BitVec 32) (u : FVec Ideal S1024x1024 .bf16) (k : Fin (k0_t1_loop w).trips)
    (x1 x2 : FVec Ideal S1x1024x1408 .bf16) (x3 : FVec Ideal S1x1408x1024 .bf16) (hk : k.val < 2 ^ 20) (s : Fin 256) (d : Fin 1024) :
    k0_pay6 (F := Ideal) v12 v14 w u 0#32 1#32 k x1 x2 x3 (ix2 s d)
      = ffn (fun j => ∑ x, (if v12 (ix2 0 x) = (((s.val + 256 * k.val : ℕ) : ℝ) : EReal) then 1 else 0) * u (ix2 x j)) x1 x2 x3 d
        * ∑ x, (if v12 (ix2 0 x) = (((s.val + 256 * k.val : ℕ) : ℝ) : EReal) then 1 else 0) * v14 (ix2 0 x) := by
  rw [← number_add s.val k.val (by omega) hk, ← base1 w k]
  pointwise [k0_pay6]
  rfl

theorem pay10_apply (v12 v14 : FVec Ideal S1x1024 .f32) (n : ℕ) (u : FVec Ideal S1024x1024 .bf16)
    (x1 x2 : FVec Ideal S1x1024x1408 .bf16) (x3 : FVec Ideal S1x1408x1024 .bf16) (hn : n < 2 ^ 20) (s : Fin 128) (d : Fin 1024) :
    k0_pay10 (F := Ideal) v12 v14 u (BitVec.ofNat 32 n) x1 x2 x3 (ix2 s d)
      = ffn (fun j => ∑ x, (if v12 (ix2 0 x) = (((s.val + 256 * n : ℕ) : ℝ) : EReal) then 1 else 0) * u (ix2 x j)) x1 x2 x3 d
        * ∑ x, (if v12 (ix2 0 x) = (((s.val + 256 * n : ℕ) : ℝ) : EReal) then 1 else 0) * v14 (ix2 0 x) := by
  rw [← number_add s.val n (by omega) hn, ← base2 n]
  pointwise [k0_pay10]
  rfl

theorem pay1_apply (v10 : FVec Ideal S1024x1 .f32) (w : BitVec 32) (k : Fin (k0_t1_loop w).trips) (hk : k.val < 2 ^ 20)
    (y : FVec Ideal S256x1024 .f32) (acc : FVec Ideal S1024x1024 .f32) (t d : Fin 1024) :
    k0_pay1 (F := Ideal) v10 (k0_pay5 (F := Ideal) w 0#32 1#32 k) y acc (ix2 t d)
      = acc (ix2 t d) + ∑ s : Fin 256, (if v10 (ix2 t 0) = (((s.val + 256 * k.val : ℕ) : ℝ) : EReal) then 1 else 0) * y (ix2 s d) := by
  have h : ∀ s : Fin 256, (((s.val + 256 * k.val : ℕ) : ℝ) : EReal)
      = ((FloatOps.sitofp FTy.f32 (BitVec.ofNat 32 s.val) : Ideal .f32) : EReal) + k0_pay5 (F := Ideal) w 0#32 1#32 k := fun s => by
    rw [base1, number_add s.val k.val (by omega) hk]
  simp only [h]
  pointwise [k0_pay1]

theorem pay3_apply (v10 : FVec Ideal S1024x1 .f32) (n : ℕ) (hn : n < 2 ^ 20)
    (y : FVec Ideal S128x1024 .f32) (acc : FVec Ideal S1024x1024 .f32) (t d : Fin 1024) :
    k0_pay3 (F := Ideal) v10 (k0_pay9 (F := Ideal) (BitVec.ofNat 32 n)) y (iota .tc S1024x128 32 [1] iota_S1024x128_d1_w32) acc (ix2 t d)
      = acc (ix2 t d) + ∑ s : Fin 128, (if v10 (ix2 t 0) = (((s.val + 256 * n : ℕ) : ℝ) : EReal) then 1 else 0) * y (ix2 s d) := by
  have h : ∀ s : Fin 128, (((s.val + 256 * n : ℕ) : ℝ) : EReal)
      = ((FloatOps.sitofp FTy.f32 (BitVec.ofNat 32 s.val) : Ideal .f32) : EReal) + k0_pay9 (F := Ideal) (BitVec.ofNat 32 n) := fun s => by
    rw [base2, number_add s.val n (by omega) hn]
  simp only [h]
  pointwise [k0_pay3]

/-! ## Ranks -/

/-- `r` ranks the tokens of `P`: they get the numbers `pos`, distinct and below their count; the others −1. -/
structure Ranked (P : Fin 1024 → Prop) (pos : Fin 1024 → ℕ) (r : Fin 1024 → EReal) : Prop where
  hit : ∀ t, P t → r t = ((pos t : ℝ) : EReal)
  miss : ∀ t, ¬ P t → r t = ((-1 : ℝ) : EReal)
  inj : ∀ t t', P t → P t' → pos t = pos t' → t = t'
  lt : ∀ t, P t → ∀ inst : DecidablePred P, pos t < (Finset.univ.filter P).card

variable {P : Fin 1024 → Prop} {pos : Fin 1024 → ℕ} {r : Fin 1024 → EReal}

/-- Being ranked `n` is being of `P` at position `n`. -/
theorem Ranked.eq_iff (h : Ranked P pos r) (t : Fin 1024) (n : ℕ) : r t = ((n : ℝ) : EReal) ↔ P t ∧ pos t = n := by
  by_cases hP : P t
  · rw [h.hit t hP, EReal.coe_eq_coe_iff, Nat.cast_inj]
    exact ⟨fun e => ⟨hP, e⟩, fun e => e.2⟩
  · rw [h.miss t hP, EReal.coe_eq_coe_iff]
    refine ⟨fun e => ?_, fun e => absurd e.1 hP⟩
    have : (0 : ℝ) ≤ (n : ℝ) := Nat.cast_nonneg n
    linarith

/-- The selection of a ranked token's row. -/
theorem Ranked.row (h : Ranked P pos r) (t : Fin 1024) (hP : P t) (g : Fin 1024 → EReal) :
    ∑ x, (if r x = ((pos t : ℝ) : EReal) then (1 : EReal) else 0) * g x = g t := by
  rw [Finset.sum_eq_single t]
  · rw [if_pos (h.hit t hP), one_mul]
  · intro x _ hx
    rw [if_neg (fun e => hx (h.inj x t ((h.eq_iff x _).mp e).1 hP ((h.eq_iff x _).mp e).2)), zero_mul]
  · intro hx
    exact absurd (Finset.mem_univ t) hx

/-- A pass over the ranks `off … off + B - 1` gives token `t` the value of its own position. -/
theorem Ranked.pick (h : Ranked P pos r) (B off : ℕ) (t : Fin 1024) (hP : P t) (h1 : off ≤ pos t) (h2 : pos t < off + B) (Y : Fin B → EReal) :
    ∑ s : Fin B, (if r t = (((s.val + off : ℕ) : ℝ) : EReal) then (1 : EReal) else 0) * Y s = Y ⟨pos t - off, by omega⟩ := by
  rw [Finset.sum_eq_single (⟨pos t - off, by omega⟩ : Fin B)]
  · rw [if_pos ((h.eq_iff t _).mpr ⟨hP, by simp only; omega⟩), one_mul]
  · intro s _ hs
    rw [if_neg (fun e => hs (Fin.ext (by have := ((h.eq_iff t _).mp e).2; simp only; omega))), zero_mul]
  · intro hx
    exact absurd (Finset.mem_univ _) hx

/-- A pass over other ranks gives it nothing. -/
theorem Ranked.skip (h : Ranked P pos r) (B off : ℕ) (t : Fin 1024) (hn : ¬ (P t ∧ off ≤ pos t ∧ pos t < off + B)) (Y : Fin B → EReal) :
    ∑ s : Fin B, (if r t = (((s.val + off : ℕ) : ℝ) : EReal) then (1 : EReal) else 0) * Y s = 0 := by
  refine Finset.sum_eq_zero fun s _ => ?_
  rw [if_neg (fun e => hn ⟨((h.eq_iff t _).mp e).1, by have := ((h.eq_iff t _).mp e).2; omega, by have := ((h.eq_iff t _).mp e).2; have := s.isLt; omega⟩), zero_mul]

/-! ## A pass, and an expert -/

variable {v10 : FVec Ideal S1024x1 .f32} {v12 v14 : FVec Ideal S1x1024 .f32}
variable {u : FVec Ideal S1024x1024 .bf16} {x1 x2 : FVec Ideal S1x1024x1408 .bf16} {x3 : FVec Ideal S1x1408x1024 .bf16}

/-- What the expert adds to a token of its own. -/
def gated (v14 : FVec Ideal S1x1024 .f32) (u : FVec Ideal S1024x1024 .bf16) (x1 x2 : FVec Ideal S1x1024x1408 .bf16) (x3 : FVec Ideal S1x1408x1024 .bf16)
    (t d : Fin 1024) : EReal := ffn (fun j => u (ix2 t j)) x1 x2 x3 d * v14 (ix2 0 t)

theorem pass1_hit (h : Ranked P pos r) (h10 : ∀ t, v10 (ix2 t 0) = r t) (h12 : ∀ t, v12 (ix2 0 t) = r t) (w : BitVec 32)
    (k : Fin (k0_t1_loop w).trips) (hk : k.val < 2 ^ 20) (acc : FVec Ideal S1024x1024 .f32) (t d : Fin 1024)
    (hP : P t) (h1 : 256 * k.val ≤ pos t) (h2 : pos t < 256 * k.val + 256) :
    pass1 (F := Ideal) v10 v12 v14 w u x1 x2 x3 k acc (ix2 t d) = acc (ix2 t d) + gated v14 u x1 x2 x3 t d := by
  unfold pass1
  rw [pay1_apply _ _ _ hk]
  simp only [pay6_apply _ _ _ _ _ _ _ _ hk, h10, h12]
  rw [h.pick 256 (256 * k.val) t hP h1 h2]
  have e : pos t - 256 * k.val + 256 * k.val = pos t := by omega
  simp only [e, h.row t hP]
  rfl

theorem pass1_miss (h : Ranked P pos r) (h10 : ∀ t, v10 (ix2 t 0) = r t) (w : BitVec 32)
    (k : Fin (k0_t1_loop w).trips) (hk : k.val < 2 ^ 20) (acc : FVec Ideal S1024x1024 .f32) (t d : Fin 1024)
    (hn : ¬ (P t ∧ 256 * k.val ≤ pos t ∧ pos t < 256 * k.val + 256)) :
    pass1 (F := Ideal) v10 v12 v14 w u x1 x2 x3 k acc (ix2 t d) = acc (ix2 t d) := by
  unfold pass1
  rw [pay1_apply _ _ _ hk]
  simp only [h10]
  rw [h.skip 256 (256 * k.val) t hn, add_zero]

theorem pass2_hit (h : Ranked P pos r) (h10 : ∀ t, v10 (ix2 t 0) = r t) (h12 : ∀ t, v12 (ix2 0 t) = r t) (n : ℕ) (hk : n < 2 ^ 20)
    (acc : FVec Ideal S1024x1024 .f32) (t d : Fin 1024)
    (hP : P t) (h1 : 256 * n ≤ pos t) (h2 : pos t < 256 * n + 128) :
    pass2 (F := Ideal) v10 v12 v14 u x1 x2 x3 (BitVec.ofNat 32 n) acc (ix2 t d) = acc (ix2 t d) + gated v14 u x1 x2 x3 t d := by
  unfold pass2
  rw [pay3_apply _ _ hk]
  simp only [pay10_apply _ _ _ _ _ _ _ hk, h10, h12]
  rw [h.pick 128 (256 * n) t hP h1 h2]
  have e : pos t - 256 * n + 256 * n = pos t := by omega
  simp only [e, h.row t hP]
  rfl

theorem pass2_miss (h : Ranked P pos r) (h10 : ∀ t, v10 (ix2 t 0) = r t) (n : ℕ) (hk : n < 2 ^ 20)
    (acc : FVec Ideal S1024x1024 .f32) (t d : Fin 1024)
    (hn : ¬ (P t ∧ 256 * n ≤ pos t ∧ pos t < 256 * n + 128)) :
    pass2 (F := Ideal) v10 v12 v14 u x1 x2 x3 (BitVec.ofNat 32 n) acc (ix2 t d) = acc (ix2 t d) := by
  unfold pass2
  rw [pay3_apply _ _ hk]
  simp only [h10]
  rw [h.skip 128 (256 * n) t hn, add_zero]

/-- The sum after `n` full passes, at a token. -/
theorem passes_apply (h : Ranked P pos r) (h10 : ∀ t, v10 (ix2 t 0) = r t) (h12 : ∀ t, v12 (ix2 0 t) = r t)
    (acc : FVec Ideal S1024x1024 .f32) (t d : Fin 1024) (n : ℕ) (hn : n ≤ (k0_t1_loop (cnt (F := Ideal) v12)).trips)
    (hb : (k0_t1_loop (cnt (F := Ideal) v12)).trips < 2 ^ 20) :
    ((P t ∧ pos t < 256 * n) → passes (F := Ideal) v10 v12 v14 u x1 x2 x3 acc n (ix2 t d) = acc (ix2 t d) + gated v14 u x1 x2 x3 t d)
    ∧ (¬ (P t ∧ pos t < 256 * n) → passes (F := Ideal) v10 v12 v14 u x1 x2 x3 acc n (ix2 t d) = acc (ix2 t d)) := by
  induction n with
  | zero => exact ⟨fun hx => absurd hx.2 (by omega), fun _ => rfl⟩
  | succ n ih =>
    obtain ⟨i1, i2⟩ := ih (by omega)
    have e := passes_succ (F := Ideal) (v10 := v10) (v12 := v12) (v14 := v14) (x0 := u) (x1 := x1) (x2 := x2) (x3 := x3) acc ⟨n, by omega⟩
    constructor
    · rintro ⟨hP, hlt⟩
      by_cases hlo : pos t < 256 * n
      · rw [e, pass1_miss h h10 _ _ (by show n < _; omega) _ _ _ (fun hx => by have := hx.2.1; simp only at this; omega)]
        exact i1 ⟨hP, hlo⟩
      · rw [e, pass1_hit h h10 h12 _ _ (by show n < _; omega) _ _ _ hP (by simp only; omega) (by simp only; omega)]
        rw [i2 (fun hx => hlo hx.2)]
    · intro hx
      rw [e, pass1_miss h h10 _ _ (by show n < _; omega) _ _ _ (fun hy => hx ⟨hy.1, by have := hy.2.2; simp only at this; omega⟩)]
      exact i2 (fun hy => hx ⟨hy.1, by omega⟩)

/-- The tokens a rank row counts are those of `P`. -/
theorem Ranked.served_iff (h : Ranked P pos r) (h12 : ∀ t, v12 (ix2 0 t) = r t) (t : Fin 1024) : served (F := Ideal) v12 (ix2 0 t) ↔ P t := by
  have e : served (F := Ideal) v12 (ix2 0 t) ↔ (0 : EReal) ≤ v12 (ix2 0 t) := by
    unfold served
    rw [show (FloatOps.ofBits FTy.f32 0#32 : Ideal .f32) = (0 : EReal) from Ideal.ofBits_zero_f32]
    show Ideal.cmp .oge (v12 (ix2 0 t)) 0 = 1#1 ↔ _
    unfold Ideal.cmp
    by_cases hx : (0 : EReal) ≤ v12 (ix2 0 t) <;> simp [hx]
  rw [e, h12]
  by_cases hP : P t
  · rw [h.hit t hP]
    exact ⟨fun _ => hP, fun _ => EReal.coe_nonneg.mpr (Nat.cast_nonneg _)⟩
  · rw [h.miss t hP]
    refine ⟨fun hx => ?_, fun hx => absurd hx hP⟩
    have := EReal.coe_nonneg.mp hx
    linarith

/-- THE EXPERT: the sum it leaves, at a token. -/
theorem accAt_apply (h : Ranked P pos r) (h10 : ∀ t, v10 (ix2 t 0) = r t) (h12 : ∀ t, v12 (ix2 0 t) = r t)
    (acc : FVec Ideal S1024x1024 .f32) (t d : Fin 1024) :
    (P t → accAt (F := Ideal) v10 v12 v14 u x1 x2 x3 acc (ix2 t d) = acc (ix2 t d) + gated v14 u x1 x2 x3 t d)
    ∧ (¬ P t → accAt (F := Ideal) v10 v12 v14 u x1 x2 x3 acc (ix2 t d) = acc (ix2 t d)) := by
  classical
  obtain ⟨_, f1, _, f2, f3⟩ := cnt_facts (F := Ideal) v12
  have hc : (cnt (F := Ideal) v12).toNat = (Finset.univ.filter P).card := by
    rw [cnt_toNat]
    exact congrArg Finset.card (Finset.filter_congr fun x _ => h.served_iff h12 x)
  have hle := cnt_le (F := Ideal) v12
  have hb : (k0_t1_loop (cnt (F := Ideal) v12)).trips < 2 ^ 20 := by rw [f1]; split_ifs <;> omega
  have hp := passes_apply (v14 := v14) (u := u) (x1 := x1) (x2 := x2) (x3 := x3) h h10 h12 acc t d _ le_rfl hb
  rw [← f1] at f2
  unfold accAt
  rw [f2]
  constructor
  · intro hP
    have hlt := h.lt t hP inferInstance
    rw [← hc] at hlt
    split_ifs with hh
    · have hr := f3.mp hh
      by_cases hlo : pos t < 256 * (k0_t1_loop (cnt (F := Ideal) v12)).trips
      · rw [pass2_miss h h10 _ hb _ _ _ (fun hx => by omega)]
        exact hp.1 ⟨hP, hlo⟩
      · rw [pass2_hit h h10 h12 _ hb _ _ _ hP (by omega) (by rw [f1]; split_ifs <;> omega), hp.2 (fun hx => hlo hx.2)]
    · refine hp.1 ⟨hP, ?_⟩
      have hr := mt f3.mpr hh
      rw [f1]
      split_ifs <;> omega
  · intro hP
    split_ifs with hh
    · rw [pass2_miss h h10 _ hb _ _ _ (fun hx => hP hx.1)]
      exact hp.2 (fun hx => hP hx.1)
    · exact hp.2 (fun hx => hP hx.1)

end Cert.KernelIdeal.Moe
-- ==== Proof.MoeBlocks.lean ====
/- The blocks the kernel is handed at a point of the grid, read off the arguments. -/
module

public import proofs.«01_k».proof.Proof.MoeFrame
public import proofs.«01_k».proof.Proof.MoeExpert
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Moe

open Idealize.ShloMosaic Idealize.ShloMosaic.TcCoe Idealize.SL.Sem
open Cert.KernelIdeal.Gen

variable (m : (ℓ : Loc nD τ sig) → Buf (Elt Ideal) ℓ) (c : Dev nD) (t : Fin cfg0.N)

theorem lt128 : t.val < 128 := Nat.lt_of_lt_of_eq t.isLt N_0

theorem coords0 : (grid0.coords t 0).val = t.val / 8 := by
  have ht := lt128 t
  have e : (grid0.coords t 0).val = t.val / 8 % 16 := Pipeline.Grid.coords_val t 0 (by decide) rfl
  omega

theorem coords1 : (grid0.coords t 1).val = t.val % 8 := by
  have e : (grid0.coords t 1).val = t.val / 1 % 8 := Pipeline.Grid.coords_val t 1 (by decide) rfl
  omega

theorem index0 : win0_0.index t = ![t.val / 8, 0] := by revert t; decide +kernel
theorem index1 : win0_1.index t = ![t.val % 8, 0, 0] := by revert t; decide +kernel
theorem index2 : win0_2.index t = ![t.val % 8, 0, 0] := by revert t; decide +kernel
theorem index3 : win0_3.index t = ![t.val % 8, 0, 0] := by revert t; decide +kernel
theorem index4 : win0_4.index t = ![t.val / 8, 0] := by revert t; decide +kernel
theorem index5 : win0_5.index t = ![0, 0] := by revert t; decide +kernel
theorem index6 : win0_6.index t = ![t.val / 8, 0] := by revert t; decide +kernel
theorem index7 : win0_7.index t = ![1 + t.val / 16, 0, 5] := by revert t; decide +kernel
theorem index8 : win0_8.index t = ![0, 0] := by revert t; decide +kernel
theorem index9 : win0_9.index t = ![0, 0] := by revert t; decide +kernel
theorem index10 : win0_10.index t = ![t.val / 8, 0] := by revert t; decide +kernel

/-- Token `a` of the block of point `t`, in the whole array. -/
def tok (a : Fin 1024) : Fin 16384 := ⟨1024 * (t.val / 8) + a.val, by have := lt128 t; omega⟩

/-- The expert of point `t`. -/
def exp8 : Fin 8 := ⟨t.val % 8, by omega⟩

/-- The row of the modulation table that point `t` uses. -/
def mrow : Fin 16 := ⟨1 + t.val / 16, by have := lt128 t; omega⟩

variable {m c t}

theorem iblk0 (a b : Fin 1024) : (iblk m c 0 t : FVec Ideal S1024x1024 .bf16) (ix2 a b)
    = (m ((c : Thread nD τ).loc main_arg0) : FVec Ideal S16384x1024 .bf16) (ix2 (tok t a) b) := by
  blk_ext [iblk, V, index0 t, tok]

theorem iblk1 (j : Fin 1024) (f : Fin 1408) : (iblk m c 1 t : FVec Ideal S1x1024x1408 .bf16) (ix3 0 j f)
    = (m ((c : Thread nD τ).loc main_arg4) : FVec Ideal S8x1024x1408 .f32) (ix3 (exp8 t) j f) := by
  blk_ext [iblk, V, index1 t, exp8]

theorem iblk2 (j : Fin 1024) (f : Fin 1408) : (iblk m c 2 t : FVec Ideal S1x1024x1408 .bf16) (ix3 0 j f)
    = (m ((c : Thread nD τ).loc main_arg5) : FVec Ideal S8x1024x1408 .f32) (ix3 (exp8 t) j f) := by
  blk_ext [iblk, V, index2 t, exp8]

theorem iblk3 (f : Fin 1408) (d : Fin 1024) : (iblk m c 3 t : FVec Ideal S1x1408x1024 .bf16) (ix3 0 f d)
    = (m ((c : Thread nD τ).loc main_arg6) : FVec Ideal S8x1408x1024 .f32) (ix3 (exp8 t) f d) := by
  blk_ext [iblk, V, index3 t, exp8]

theorem iblk6 (a b : Fin 1024) : (iblk m c 6 t : FVec Ideal S1024x1024 .f32) (ix2 a b)
    = (m ((c : Thread nD τ).loc main_arg2) : FVec Ideal S16384x1024 .f32) (ix2 (tok t a) b) := by
  blk_ext [iblk, V, index6 t, tok]

/-- The gate array. -/
def arg1 (m : (ℓ : Loc nD τ sig) → Buf (Elt Ideal) ℓ) (c : Dev nD) : FVec Ideal S16384x8 .f32 := m ((c : Thread nD τ).loc main_arg1)

theorem entry1 : (V m c main_v1 : FVec Ideal S16384x128 .f32)
    = pad S16384x128 ![0, 0] ![0, 120] ![0, 0] (arg1 m c) (sitofp (F := Ideal) .f32 (constantI S_ 32 0#32)) pads_S16384x8_S16384x128_000_01200 h_S_ := rfl

theorem entry7 : (V m c main_v7 : FVec Ideal S1024x1024 .bf16)
    = truncf (F := Ideal) .bf16 (select (cmpi .sge (addi (iotaInDim S1024x1024 32 0) (broadcastInDim S1024x1024 ![] bcast_S_S1024x1024 (constantI S_ 32 4294967295#32))) (iotaInDim S1024x1024 32 1))
        (broadcastInDim S1024x1024 ![] bcast_S_S1024x1024 (constant (F := Ideal) S_ .f32 0x3F800000#32))
        (broadcastInDim S1024x1024 ![] bcast_S_S1024x1024 (constant (F := Ideal) S_ .f32 0x00000000#32))) bitsLt_bf16_f32 := by
  show StableHlo.after (List.flatten [hostOps0, hostOps0_1, hostOps0_2, hostOps0_3, hostOps0_4]) (fun b => m (c, b)) (Proc.devRef .tc main_v7) = _
  simp only [hostOps0, hostOps0_1, hostOps0_2, hostOps0_3, hostOps0_4, List.flatten_cons, List.flatten_nil, List.append_nil, List.cons_append,
      List.nil_append, StableHlo.TRef.binary, StableHlo.TRef.nullary, StableHlo.TRef.unary, StableHlo.TRef.ternary, StableHlo.TRef.toBuf, StableHlo.TRef.ofBuf, cast_eq]
  after_results_simp <;> rfl

theorem entry0 : (V m c main_v0 : FVec Ideal S16x1x6144 .f32) = shapeCast S16x1x6144 (m ((c : Thread nD τ).loc main_arg3) : FVec Ideal S16x6144 .f32) shapeCasts_S16x6144_S16x1x6144 := rfl
theorem entry8 : (V m c main_v8 : FVec Ideal S1x1024 .f32) = shapeCast S1x1024 (m ((c : Thread nD τ).loc main_arg7) : FVec Ideal S1024 .f32) shapeCasts_S1024_S1x1024 := rfl
theorem entry9 : (V m c main_v9 : FVec Ideal S1x1024 .f32) = shapeCast S1x1024 (m ((c : Thread nD τ).loc main_arg8) : FVec Ideal S1024 .f32) shapeCasts_S1024_S1x1024 := rfl

theorem iblk4 (a : Fin 1024) (e : Fin 8) : (iblk m c 4 t : FVec Ideal S1024x128 .f32) (ix2 a ⟨e.val, by omega⟩)
    = (m ((c : Thread nD τ).loc main_arg1) : FVec Ideal S16384x8 .f32) (ix2 (tok t a) e) := by
  have h : (iblk m c 4 t : FVec Ideal S1024x128 .f32) (ix2 a ⟨e.val, by omega⟩) = (V m c main_v1 : FVec Ideal S16384x128 .f32) (ix2 (tok t a) ⟨e.val, by omega⟩) := by
    blk_ext [iblk, index4 t, tok]
  rw [h, entry1]
  pointwise
  rfl

theorem read5 (X : (⟨S1024x1024, .bf16⟩ : BufTy).Contents (Elt Ideal)) (a b : Fin 1024) :
    (((cfg0.win 5).blk t).view.read (Elt Ideal) X : FVec Ideal S1024x1024 .bf16) (ix2 a b) = X (ix2 a b) := by
  blk_ext [index5 t]

theorem minus_one : (4294967295#32).toInt = -1 := by decide
theorem pred_word (a : ℕ) (ha : a < 1024) : (BitVec.ofNat 32 a + 4294967295#32).toInt = (a : ℤ) - 1 := by
  rw [BitVec.toInt_add, toInt_word _ (by omega), minus_one, Int.bmod_eq_of_le (by omega) (by omega)]
  omega
theorem ofBool_one (p : Bool) : BitVec.ofBool p = 1 ↔ p = true := by cases p <;> decide
theorem sge_iff (x y : BitVec 32) : IntOp.cmpi CmpIPredicate.sge x y = 1 ↔ y.toInt ≤ x.toInt := by
  rw [← BitVec.sle_iff_toInt_le]
  exact ofBool_one _
theorem below (a b : Fin 1024) : (IntOp.cmpi CmpIPredicate.sge (IntOp.addi (BitVec.ofNat 32 a.val) 4294967295#32) (BitVec.ofNat 32 b.val) = 1) ↔ b.val < a.val := by
  have ha := a.isLt
  have hb := b.isLt
  rw [sge_iff, toInt_word b.val (by omega)]
  unfold IntOp.addi
  rw [pred_word a.val ha]
  omega
theorem iblk5 (a b : Fin 1024) : (iblk m c 5 t : FVec Ideal S1024x1024 .bf16) (ix2 a b) = if b.val < a.val then (1 : EReal) else (0 : EReal) := by
  have h : (iblk m c 5 t : FVec Ideal S1024x1024 .bf16) (ix2 a b) = (V m c main_v7 : FVec Ideal S1024x1024 .bf16) (ix2 a b) := read5 (V m c main_v7) a b
  rw [h, entry7]
  pointwise
  unfold Scalar.select
  by_cases hx : b.val < a.val
  · rw [if_pos ((below a b).mpr hx), if_pos hx]
  · rw [if_neg (fun e => hx ((below a b).mp e)), if_neg hx]

theorem cast0 (X : FVec Ideal S16x6144 .f32) (r : Fin 16) (d : Fin 6144) : shapeCast S16x1x6144 X shapeCasts_S16x6144_S16x1x6144 (ix3 r 0 d) = X (ix2 r d) := by
  pointwise

theorem iblk7 (d : Fin 1024) : (iblk m c 7 t : FVec Ideal S1x1x1024 .f32) (ix3 0 0 d)
    = (m ((c : Thread nD τ).loc main_arg3) : FVec Ideal S16x6144 .f32) (ix2 (mrow t) ⟨5120 + d.val, by omega⟩) := by
  have h : (iblk m c 7 t : FVec Ideal S1x1x1024 .f32) (ix3 0 0 d) = (V m c main_v0 : FVec Ideal S16x1x6144 .f32) (ix3 (mrow t) 0 ⟨5120 + d.val, by omega⟩) := by
    blk_ext [iblk, index7 t, mrow]
  rw [h, entry0]
  exact cast0 _ _ _

theorem iblk8 (d : Fin 1024) : (iblk m c 8 t : FVec Ideal S1x1024 .f32) (ix2 0 d) = (m ((c : Thread nD τ).loc main_arg7) : FVec Ideal S1024 .f32) (ix1 d) := by
  have h : (iblk m c 8 t : FVec Ideal S1x1024 .f32) (ix2 0 d) = (V m c main_v8 : FVec Ideal S1x1024 .f32) (ix2 0 d) := by
    blk_ext [iblk, index8 t]
  rw [h, entry8]
  pointwise

theorem iblk9 (d : Fin 1024) : (iblk m c 9 t : FVec Ideal S1x1024 .f32) (ix2 0 d) = (m ((c : Thread nD τ).loc main_arg8) : FVec Ideal S1024 .f32) (ix1 d) := by
  have h : (iblk m c 9 t : FVec Ideal S1x1024 .f32) (ix2 0 d) = (V m c main_v9 : FVec Ideal S1x1024 .f32) (ix2 0 d) := by
    blk_ext [iblk, index9 t]
  rw [h, entry9]
  pointwise

end Cert.KernelIdeal.Moe
-- ==== Proof.MoeRank.lean ====
/- The rank tables: a token the router gave an expert is ranked by how many earlier tokens of the
   block the expert also has. -/
module

public import proofs.«01_k».proof.Proof.MoeExpert

@[expose] public section

set_option maxRecDepth 16384

noncomputable section

namespace Cert.KernelIdeal.Moe

open Idealize.ShloMosaic Idealize.SL.Sem
open Cert.KernelIdeal.Gen

theorem neg_one_f32 : Ideal.ofBits .f32 0xBF800000#32 = ((-1 : ℝ) : EReal) := by
  simp [Ideal.ofBits, Ideal.ieee, -EReal.coe_mul, -EReal.coe_neg]; norm_num

/-- A sum of zeros and ones counts. -/
theorem sum_count {n : ℕ} (p : Fin n → Prop) [DecidablePred p] : ∑ x, (if p x then (1 : EReal) else 0) = (((Finset.univ.filter p).card : ℝ) : EReal) := by
  rw [Finset.sum_boole, EReal.coe_natCast]

/-- The tokens before `t` among those of `P`. -/
def earlier (P : Fin 1024 → Prop) (t : Fin 1024) : ℕ := by
  classical exact (Finset.univ.filter fun x => x.val < t.val ∧ P x).card

/-- Every token of `P` has fewer of `P` before it than there are in all. -/
theorem earlier_lt_classical (P : Fin 1024 → Prop) (t : Fin 1024) (hP : P t) :
    earlier P t < (@Finset.filter (Fin 1024) P (fun a => Classical.propDecidable (P a)) Finset.univ).card := by
  classical
  unfold earlier
  refine Finset.card_lt_card ⟨fun x hx => ?_, fun hs => ?_⟩
  · rw [Finset.mem_filter] at hx ⊢
    exact ⟨hx.1, hx.2.2⟩
  · have h2 := hs ((Finset.mem_filter (p := P)).mpr ⟨Finset.mem_univ t, hP⟩)
    rw [Finset.mem_filter] at h2
    omega

/-- The same, however membership is decided. -/
theorem earlier_lt (P : Fin 1024 → Prop) (t : Fin 1024) (hP : P t) (inst : DecidablePred P) : earlier P t < (@Finset.filter (Fin 1024) P inst Finset.univ).card := by
  have e : inst = fun a => Classical.propDecidable (P a) := Subsingleton.elim _ _
  subst e
  exact earlier_lt_classical P t hP

/-- Such a rank table ranks. -/
theorem ranked_of (P : Fin 1024 → Prop) (r : Fin 1024 → EReal) (hit : ∀ t, P t → r t = ((earlier P t : ℝ) : EReal))
    (miss : ∀ t, ¬ P t → r t = ((-1 : ℝ) : EReal)) : Ranked P (earlier P) r := by
  classical
  have mono : ∀ t t' : Fin 1024, P t → t.val < t'.val → earlier P t < earlier P t' := fun t t' hP hlt => by
    unfold earlier
    refine Finset.card_lt_card ⟨fun x hx => ?_, fun hs => ?_⟩
    · rw [Finset.mem_filter] at hx ⊢
      exact ⟨hx.1, by omega, hx.2.2⟩
    · have h1 : t ∈ Finset.univ.filter fun x : Fin 1024 => x.val < t'.val ∧ P x := by
        rw [Finset.mem_filter]; exact ⟨Finset.mem_univ t, hlt, hP⟩
      have h2 := hs h1
      rw [Finset.mem_filter] at h2
      omega
  refine ⟨hit, miss, fun t t' hP hP' e => ?_, fun t hP inst => ?_⟩
  · by_contra hne
    rcases Nat.lt_or_gt_of_ne (fun h => hne (Fin.ext h)) with hlt | hlt
    · have := mono t t' hP hlt
      omega
    · have := mono t' t hP' hlt
      omega
  · exact earlier_lt P t hP inst

variable (g : FVec Ideal S1024x128 .f32) (b : FVec Ideal S1024x1024 .bf16)

/-- The rank table at a token and an expert. -/
theorem pay14_apply (hb : ∀ x y : Fin 1024, b (ix2 x y) = if y.val < x.val then (1 : EReal) else 0) (t : Fin 1024) (e : Fin 128) :
    (0 < g (ix2 t e) → k0_pay14 (F := Ideal) g b (ix2 t e) = ((earlier (fun x => 0 < g (ix2 x e)) t : ℝ) : EReal))
    ∧ (¬ 0 < g (ix2 t e) → k0_pay14 (F := Ideal) g b (ix2 t e) = ((-1 : ℝ) : EReal)) := by
  classical
  have h : k0_pay14 (F := Ideal) g b (ix2 t e) = (if 0 < g (ix2 t e) then ∑ x, b (ix2 t x) * (if 0 < g (ix2 x e) then (1 : EReal) else 0)
      else Ideal.ofBits FTy.f32 3212836864#32) := by
    pointwise [k0_pay14, k0_pay13, k0_pay12]
  rw [h]
  constructor
  · intro hg
    rw [if_pos hg]
    have e1 : ∀ x : Fin 1024, b (ix2 t x) * (if 0 < g (ix2 x e) then (1 : EReal) else 0) = if (x.val < t.val ∧ 0 < g (ix2 x e)) then (1 : EReal) else 0 := fun x => by
      rw [hb]
      by_cases h1 : x.val < t.val <;> by_cases h2 : 0 < g (ix2 x e) <;> simp [h1, h2]
    rw [Finset.sum_congr rfl fun x _ => e1 x, sum_count]
    unfold earlier
    congr 2
    refine congrArg Finset.card ?_
    ext x
    simp only [Finset.mem_filter]
  · intro hg
    rw [if_neg hg]
    exact neg_one_f32

theorem pay14_ranked (hb : ∀ x y : Fin 1024, b (ix2 x y) = if y.val < x.val then (1 : EReal) else 0) (e : Fin 128) :
    Ranked (fun x => 0 < g (ix2 x e)) (earlier fun x => 0 < g (ix2 x e)) (fun t => k0_pay14 (F := Ideal) g b (ix2 t e)) :=
  ranked_of _ _ (fun t => (pay14_apply g b hb t e).1) (fun t => (pay14_apply g b hb t e).2)

/-- The tables laid out the other way. -/
theorem pay15_apply (t : Fin 1024) (e : Fin 128) : k0_pay15 (F := Ideal) g b (ix2 e t) = k0_pay14 g b (ix2 t e) := by
  pointwise [k0_pay15, k0_pay14]

theorem pay16_apply (t : Fin 1024) (e : Fin 128) : k0_pay16 (F := Ideal) g (ix2 e t) = g (ix2 t e) := by
  pointwise [k0_pay16, k0_pay12]

/-- The expert's column of a table. -/
theorem pay17_apply (i : grid0.Coords) (t : Fin 1024) (e : Fin 128) (he : e.val = (i 1).val) : k0_pay17 (F := Ideal) i g (ix2 t 0) = g (ix2 t e) := by
  have h : k0_pay17 (F := Ideal) i g (ix2 t 0)
      = ∑ x : Fin 128, Scalar.select (IntOp.cmpi CmpIPredicate.eq (BitVec.ofNat 32 x.val) (BitVec.ofNat 32 (i 1).val)) (g (ix2 t x)) (0 : EReal) := by
    pointwise [k0_pay17]
  rw [h, Finset.sum_eq_single e]
  · rw [he]
    unfold Scalar.select IntOp.cmpi
    simp
  · intro x _ hx
    have hne : BitVec.ofNat 32 x.val ≠ BitVec.ofNat 32 (i 1).val := fun hh => hx (Fin.ext (by
      have := congrArg BitVec.toNat hh
      rw [BitVec.toNat_ofNat, BitVec.toNat_ofNat, ← he] at this
      have h1 := x.isLt
      have h2 := e.isLt
      omega))
    unfold Scalar.select IntOp.cmpi
    simp [beq_eq_false_iff_ne.mpr hne]
  · intro hx
    exact absurd (Finset.mem_univ _) hx

/-- The expert's row of a table laid out the other way. -/
theorem row_apply (i : grid0.Coords) (X : FVec Ideal S128x1024 .f32) (t : Fin 1024) (e : Fin 128) (he : e.val = (i 1).val) :
    row (F := Ideal) i X (ix2 0 t) = X (ix2 e t) := by
  unfold row
  congr 1
  funext a
  apply Fin.ext
  fin_cases a
  · show (BitVec.ofNat 32 (i 1).val).toNat + 1 * 0 = e.val
    have h2 := e.isLt
    rw [BitVec.toNat_ofNat, ← he]
    omega
  · show 0 + 1 * t.val = t.val
    omega

end Cert.KernelIdeal.Moe
-- ==== Proof.MoeSpec.lean ====
/- The mathematics the two programs share, at one token, and the reference's result read as it. -/
module

public import proofs.«01_k».proof.Proof.Gen.ReferenceIdeal.Read
public import proofs.«01_k».proof.Proof.MoeExpert

@[expose] public section

set_option maxRecDepth 16384

noncomputable section

namespace Cert.ReferenceIdeal.Moe

open Idealize.ShloMosaic Idealize.SL.Sem
open Cert.ReferenceIdeal.Read

/-- The layer norm of the row `p` with scale `g` and shift `b`, at column `d`. -/
def normed (p g b : Fin 1024 → EReal) (d : Fin 1024) : EReal :=
  (p d - Ideal.div (∑ k, p k) (Ideal.ofBits .f32 0x44800000#32))
    * Ideal.rsqrt (Ideal.div (∑ k, (p k - Ideal.div (∑ k, p k) (Ideal.ofBits .f32 0x44800000#32)) * (p k - Ideal.div (∑ k, p k) (Ideal.ofBits .f32 0x44800000#32)))
        (Ideal.ofBits .f32 0x44800000#32) + Ideal.ofBits .f32 0x358637BD#32) * g d + b d

variable (x0 : FVec Ideal S16384x1024 .bf16) (x1 : FVec Ideal S16384x8 .f32) (x2 : FVec Ideal S16384x1024 .f32) (x3 : FVec Ideal S16x6144 .f32)
variable (x4 x5 : FVec Ideal S8x1024x1408 .f32) (x6 : FVec Ideal S8x1408x1024 .f32) (x7 x8 : FVec Ideal S1024 .f32)

/-- Expert `e`'s feed-forward value of token `T`, at column `d`. -/
def expert (T : Fin 16384) (e : Fin 8) (d : Fin 1024) : EReal :=
  ∑ f : Fin 1408, Cert.KernelIdeal.Moe.act (∑ j, x0 (ix2 T j) * x4 (ix3 e j f)) * (∑ j, x0 (ix2 T j) * x5 (ix3 e j f)) * x6 (ix3 e f d)

theorem mix_apply (T : Fin 16384) (d : Fin 1024) : val_main_v10 (F := Ideal) x0 x1 x4 x5 x6 (ix2 T d) = ∑ e : Fin 8, x1 (ix2 T e) * expert x0 x4 x5 x6 T e d := by
  pointwise [val_main_v10, val_main_v9, val_main_v8, val_main_v7, val_main_v6, val_main_v5, val_main_v4, val_main_v3, val_main_v2, val_main_v1, val_main_v0, val_main_call0_v0, val_main_call0_v1, val_main_call0_v2, val_main_call0_v3, val_main_call0_v4, val_main_call0_v5, val_main_cst, val_main_call0_cst, val_main_call0_cst_0]
  simp only [expert, Cert.KernelIdeal.Moe.act, sub_eq_add_neg, zero_add]

theorem pre_apply (b : Fin 8) (s : Fin 2048) (d : Fin 1024) : val_main_v19 (F := Ideal) x0 x1 x2 x3 x4 x5 x6 (ix3 b s d)
    = Ideal.ofBits .f32 0x3FB504F3#32 * x2 (ix2 ⟨b.val * 2048 + s.val, by omega⟩ d)
      + x3 (ix2 ⟨1 + b.val, by omega⟩ ⟨5120 + d.val, by omega⟩) * val_main_v10 (F := Ideal) x0 x1 x4 x5 x6 (ix2 ⟨b.val * 2048 + s.val, by omega⟩ d) := by
  unfold val_main_v19 val_main_v18 val_main_v11
  generalize val_main_v10 (F := Ideal) x0 x1 x4 x5 x6 = Y
  pointwise [val_main_v16, val_main_v17, val_main_v15, val_main_v14, val_main_v13, val_main_v12, val_main_cst_0]

theorem norm_apply (b : Fin 8) (s : Fin 2048) (d : Fin 1024) : val_main_v43 (F := Ideal) x0 x1 x2 x3 x4 x5 x6 x7 x8 (ix3 b s d)
    = normed (fun k => val_main_v19 (F := Ideal) x0 x1 x2 x3 x4 x5 x6 (ix3 b s k)) (fun k => x7 (ix1 k)) (fun k => x8 (ix1 k)) d := by
  unfold val_main_v43 val_main_v40 val_main_v37 val_main_v36 val_main_v35 val_main_v34 val_main_v32 val_main_v31 val_main_v30 val_main_v28 val_main_v27 val_main_v26 val_main_v25 val_main_v24 val_main_v23 val_main_v21 val_main_v20
  generalize val_main_v19 (F := Ideal) x0 x1 x2 x3 x4 x5 x6 = Y
  pointwise [val_main_v42, val_main_v41, val_main_v39, val_main_v38, val_main_v33, val_main_v29, val_main_v22, val_main_cst_1, val_main_cst_2, val_main_cst_3, val_main_cst_4, val_main_cst_5]
  rfl

theorem out_apply (T : Fin 16384) (d : Fin 1024) : val_main_v44 (F := Ideal) x0 x1 x2 x3 x4 x5 x6 x7 x8 (ix2 T d)
    = val_main_v43 (F := Ideal) x0 x1 x2 x3 x4 x5 x6 x7 x8 (ix3 ⟨T.val / 2048, by omega⟩ ⟨T.val % 2048, by omega⟩ d) := by
  unfold val_main_v44
  generalize val_main_v43 (F := Ideal) x0 x1 x2 x3 x4 x5 x6 x7 x8 = Y
  pointwise

/-- What the layer norm is taken of: the scaled residual plus the gated mixture of the experts. -/
def mixed (T : Fin 16384) (d : Fin 1024) : EReal :=
  Ideal.ofBits .f32 0x3FB504F3#32 * x2 (ix2 T d)
    + x3 (ix2 ⟨1 + T.val / 2048, by omega⟩ ⟨5120 + d.val, by omega⟩) * ∑ e : Fin 8, x1 (ix2 T e) * expert x0 x4 x5 x6 T e d

/-- The layer's result. -/
def result : FVec Ideal S16384x1024 .f32 := fun y =>
  normed (mixed x0 x1 x2 x3 x4 x5 x6 (y 0)) (fun k => x7 (ix1 k)) (fun k => x8 (ix1 k)) (y 1)

/-- The reference computes it. -/
theorem reference_eq : val_main_v44 (F := Ideal) x0 x1 x2 x3 x4 x5 x6 x7 x8 = result x0 x1 x2 x3 x4 x5 x6 x7 x8 := by
  funext y
  obtain ⟨T, d, rfl⟩ : ∃ T d, y = ix2 T d := ⟨y 0, y 1, by ext k; fin_cases k <;> rfl⟩
  rw [out_apply, norm_apply]
  have h : ∀ k, val_main_v19 (F := Ideal) x0 x1 x2 x3 x4 x5 x6 (ix3 ⟨T.val / 2048, by omega⟩ ⟨T.val % 2048, by omega⟩ k) = mixed x0 x1 x2 x3 x4 x5 x6 T k := fun k => by
    rw [pre_apply, mix_apply]
    have e : (⟨T.val / 2048 * 2048 + T.val % 2048, by omega⟩ : Fin 16384) = T := Fin.ext (by dsimp only; omega)
    simp only [e]
    rfl
  simp only [h]
  rfl

end Cert.ReferenceIdeal.Moe

namespace Cert.KernelIdeal.Moe
open Idealize.ShloMosaic Idealize.SL.Sem
open Cert.KernelIdeal.Gen

theorem pay4_apply (x : FVec Ideal S1024x1024 .f32) (g : FVec Ideal S1x1x1024 .f32) (acc : FVec Ideal S1024x1024 .f32) (lg lb : FVec Ideal S1x1024 .f32) (t d : Fin 1024) :
    k0_pay4 (F := Ideal) x g acc lg lb (ix2 t d)
      = Cert.ReferenceIdeal.Moe.normed (fun k => Ideal.ofBits .f32 0x3FB504F3#32 * x (ix2 t k) + g (ix3 0 0 k) * acc (ix2 t k)) (fun k => lg (ix2 0 k)) (fun k => lb (ix2 0 k)) d := by
  pointwise [k0_pay4]
  rfl

end Cert.KernelIdeal.Moe
-- ==== Proof.MoeValue.lean ====
/- The value of the expert kernel: what its running sum holds after each expert, and what it writes. -/
module

public import proofs.«01_k».proof.Proof.MoeFrame
public import proofs.«01_k».proof.Proof.MoeBlocks
public import proofs.«01_k».proof.Proof.MoeRank
public import proofs.«01_k».proof.Proof.MoeSpec

@[expose] public section

set_option maxRecDepth 16384

noncomputable section

namespace Cert.KernelIdeal.Moe

open Idealize.ShloMosaic Idealize.ShloMosaic.TcCoe Idealize.SL.Sem
open Idealize.ShloMosaic.Pipeline (Dat Cfg Window BodyObligation cellOf)
open Cert.KernelIdeal.Gen

variable (m : (ℓ : Loc nD τ sig) → Buf (Elt Ideal) ℓ) (c : Dev nD)

/-- The feed-forward value of expert `e` at token `T`, on the kernel's arguments. -/
def expertAt (T : Fin 16384) (e : Fin 8) (d : Fin 1024) : EReal :=
  Cert.ReferenceIdeal.Moe.expert (m ((c : Thread nD τ).loc main_arg0)) (m ((c : Thread nD τ).loc main_arg4)) (m ((c : Thread nD τ).loc main_arg5))
    (m ((c : Thread nD τ).loc main_arg6)) T e d

/-- The blocks of a grid point give that expert's value. -/
theorem ffn_eq (t : Fin cfg0.N) (a d : Fin 1024) :
    ffn (fun j => (iblk m c 0 t : FVec Ideal S1024x1024 .bf16) (ix2 a j)) (iblk m c 1 t) (iblk m c 2 t) (iblk m c 3 t) d = expertAt m c (tok t a) (exp8 t) d := by
  unfold ffn expertAt Cert.ReferenceIdeal.Moe.expert
  simp only [iblk0, iblk1, iblk2, iblk3]

/-- The first point of the block of tokens of a grid point. -/
def firstOf (t : Fin cfg0.N) : Fin cfg0.N := ⟨8 * (t.val / 8), by have := t.isLt; omega⟩

theorem tok_firstOf (t : Fin cfg0.N) (a : Fin 1024) : tok (firstOf t) a = tok t a := Fin.ext (by
  show 1024 * (8 * (t.val / 8) / 8) + a.val = 1024 * (t.val / 8) + a.val
  omega)

/-- The rank tables and the gates of a block, once its first point has run. -/
def tables (t : Fin cfg0.N) : FVec Ideal S1024x128 .f32 × FVec Ideal S128x1024 .f32 × FVec Ideal S128x1024 .f32 :=
  (k0_pay14 (iblk m c 4 (firstOf t)) (iblk m c 5 (firstOf t)), k0_pay15 (iblk m c 4 (firstOf t)) (iblk m c 5 (firstOf t)), k0_pay16 (iblk m c 4 (firstOf t)))

/-- The running sum after the experts before `n`, at token `T` and column `d`. -/
def sumTo (n : ℕ) (T : Fin 16384) (d : Fin 1024) : EReal :=
  ∑ e : Fin 8, if e.val < n then arg1 m c (ix2 T e) * expertAt m c T e d else 0

theorem sumTo_zero (T : Fin 16384) (d : Fin 1024) : sumTo m c 0 T d = 0 := by simp [sumTo]

theorem sumTo_succ (e : Fin 8) (T : Fin 16384) (d : Fin 1024) : sumTo m c (e.val + 1) T d = sumTo m c e.val T d + arg1 m c (ix2 T e) * expertAt m c T e d := by
  unfold sumTo
  rw [← Finset.sum_erase_add _ _ (Finset.mem_univ e), ← Finset.sum_erase_add (f := fun x : Fin 8 => if x.val < e.val then _ else _) _ (Finset.mem_univ e)]
  rw [if_pos (by omega), if_neg (by omega), add_zero]
  congr 1
  refine Finset.sum_congr rfl fun x hx => ?_
  have hne : x.val ≠ e.val := fun h => (Finset.ne_of_mem_erase hx) (Fin.ext h)
  by_cases h : x.val < e.val
  · rw [if_pos h, if_pos (by omega)]
  · rw [if_neg h, if_neg (by omega)]

theorem sumTo_eight (T : Fin 16384) (d : Fin 1024) : sumTo m c 8 T d = ∑ e : Fin 8, arg1 m c (ix2 T e) * expertAt m c T e d := by
  unfold sumTo
  exact Finset.sum_congr rfl fun e _ => if_pos e.isLt

/-- One expert's step over any gates that are nowhere negative: it adds the gated value to every token (nothing where the gate is zero). -/
theorem step_tables (i : grid0.Coords) (g : FVec Ideal S1024x128 .f32) (b : FVec Ideal S1024x1024 .bf16)
    (hb : ∀ x y : Fin 1024, b (ix2 x y) = if y.val < x.val then (1 : EReal) else 0) (e : Fin 128) (he : e.val = (i 1).val) (hpos : ∀ x : Fin 1024, 0 ≤ g (ix2 x e))
    (u : FVec Ideal S1024x1024 .bf16) (x1 x2 : FVec Ideal S1x1024x1408 .bf16) (x3 : FVec Ideal S1x1408x1024 .bf16) (acc : FVec Ideal S1024x1024 .f32) (a d : Fin 1024) :
    accAt (F := Ideal) (k0_pay17 (F := Ideal) i (k0_pay14 (F := Ideal) g b)) (row (F := Ideal) i (k0_pay15 (F := Ideal) g b)) (row (F := Ideal) i (k0_pay16 (F := Ideal) g)) u x1 x2 x3 acc (ix2 a d)
      = acc (ix2 a d) + g (ix2 a e) * ffn (fun j => u (ix2 a j)) x1 x2 x3 d := by
  have h10 : ∀ x : Fin 1024, k0_pay17 (F := Ideal) i (k0_pay14 (F := Ideal) g b) (ix2 x 0) = k0_pay14 (F := Ideal) g b (ix2 x e) := fun x => pay17_apply _ _ x e he
  have h12 : ∀ x : Fin 1024, row (F := Ideal) i (k0_pay15 (F := Ideal) g b) (ix2 0 x) = k0_pay14 (F := Ideal) g b (ix2 x e) := fun x => (row_apply _ _ x e he).trans (pay15_apply _ _ x e)
  have h14 : row (F := Ideal) i (k0_pay16 (F := Ideal) g) (ix2 0 a) = g (ix2 a e) := (row_apply _ _ a e he).trans (pay16_apply _ a e)
  have key := accAt_apply (v14 := row (F := Ideal) i (k0_pay16 (F := Ideal) g)) (u := u) (x1 := x1) (x2 := x2) (x3 := x3) (pay14_ranked g b hb e) h10 h12 acc a d
  by_cases hP : 0 < g (ix2 a e)
  · refine (key.1 hP).trans ?_
    unfold gated
    rw [h14, mul_comm]
  · refine (key.2 hP).trans ?_
    rw [show g (ix2 a e) = 0 from le_antisymm (not_lt.mp hP) (hpos a), zero_mul, add_zero]

/-- The same at a grid point, on the kernel's arguments. -/
theorem step (hpos : ∀ T e, 0 ≤ arg1 m c (ix2 T e)) (t : Fin cfg0.N) (acc : FVec Ideal S1024x1024 .f32) (a d : Fin 1024) :
    (advance m c t (acc, tables m c t)).1 (ix2 a d) = acc (ix2 a d) + arg1 m c (ix2 (tok t a) (exp8 t)) * expertAt m c (tok t a) (exp8 t) d := by
  have hg : ∀ x : Fin 1024, (iblk m c 4 (firstOf t) : FVec Ideal S1024x128 .f32) (ix2 x ⟨(exp8 t).val, by omega⟩) = arg1 m c (ix2 (tok t x) (exp8 t)) := fun x => by
    rw [iblk4, tok_firstOf]; rfl
  have hb : ∀ x y : Fin 1024, (iblk m c 5 (firstOf t) : FVec Ideal S1024x1024 .bf16) (ix2 x y) = if y.val < x.val then (1 : EReal) else 0 := fun x y => iblk5 x y
  have he : (⟨(exp8 t).val, by omega⟩ : Fin 128).val = ((grid0.coords t) 1).val := (coords1 t).symm
  have hp : ∀ x : Fin 1024, (0 : EReal) ≤ (iblk m c 4 (firstOf t) : FVec Ideal S1024x128 .f32) (ix2 x ⟨(exp8 t).val, by omega⟩) := fun x => by rw [hg]; exact hpos _ _
  rw [← ffn_eq, ← hg a]
  unfold advance tables
  dsimp only
  clear hg
  generalize (iblk m c 4 (firstOf t) : FVec Ideal S1024x128 .f32) = G at hp ⊢
  generalize (iblk m c 5 (firstOf t) : FVec Ideal S1024x1024 .bf16) = B at hb ⊢
  exact step_tables (grid0.coords t) G B hb _ he hp (iblk m c 0 t) (iblk m c 1 t) (iblk m c 2 t) (iblk m c 3 t) acc a d

/-- The first point of a block sets the tables up and adds its expert to zero. -/
theorem first_eq (hpos : ∀ T e, 0 ≤ arg1 m c (ix2 T e)) (t : Fin cfg0.N) (h0 : t.val % 8 = 0) :
    (stateAt m c t.val t.isLt).2 = tables m c t ∧ ∀ a d : Fin 1024, (stateAt m c t.val t.isLt).1 (ix2 a d) = sumTo m c (t.val % 8 + 1) (tok t a) d := by
  have hf : firstOf t = t := Fin.ext (by show 8 * (t.val / 8) = t.val; omega)
  have hs : stateAt m c t.val t.isLt = advance m c t (k0_pay11 (F := Ideal), tables m c t) := by
    rw [stateAt_first m c t h0]; unfold tables; rw [hf]
  refine ⟨?_, fun a d => ?_⟩
  · rw [hs]; rfl
  · rw [hs, step m c hpos, show t.val % 8 + 1 = (exp8 t).val + 1 from rfl, sumTo_succ, show (exp8 t).val = 0 from h0, sumTo_zero]
    congr 1
    pointwise [k0_pay11]

/-- After a grid point: the tables of its block, and the sum over the experts so far. -/
theorem state_eq (hpos : ∀ T e, 0 ≤ arg1 m c (ix2 T e)) : ∀ (n : ℕ) (h : n < cfg0.N),
    (stateAt m c n h).2 = tables m c ⟨n, h⟩ ∧ ∀ a d : Fin 1024, (stateAt m c n h).1 (ix2 a d) = sumTo m c (n % 8 + 1) (tok ⟨n, h⟩ a) d := by
  intro n
  induction n with
  | zero => exact fun h => first_eq m c hpos ⟨0, h⟩ rfl
  | succ n ih =>
    intro h
    by_cases h0 : (n + 1) % 8 = 0
    · exact first_eq m c hpos ⟨n + 1, h⟩ h0
    · obtain ⟨hT, hS⟩ := ih (by omega)
      have hl : stateAt m c (n + 1) h = advance m c ⟨n + 1, h⟩ (stateAt m c n (by omega)) := stateAt_later m c ⟨n + 1, h⟩ h0
      have hf : firstOf ⟨n, by omega⟩ = firstOf ⟨n + 1, h⟩ := Fin.ext (by show 8 * (n / 8) = 8 * ((n + 1) / 8); omega)
      have hk : ∀ a, tok ⟨n, by omega⟩ a = tok ⟨n + 1, h⟩ a := fun a => by rw [← tok_firstOf, hf, tok_firstOf]
      have hT' : (stateAt m c n (by omega)).2 = tables m c ⟨n + 1, h⟩ := by
        rw [hT]; unfold tables; rw [hf]
      have hs : stateAt m c n (by omega) = ((stateAt m c n (by omega)).1, tables m c ⟨n + 1, h⟩) := by rw [← hT']
      refine ⟨?_, fun a d => ?_⟩
      · rw [hl]; exact hT'
      · rw [hl, hs, step m c hpos, hS, hk, show n % 8 + 1 = (exp8 ⟨n + 1, h⟩).val from by show n % 8 + 1 = (n + 1) % 8; omega,
          show (n + 1) % 8 + 1 = (exp8 ⟨n + 1, h⟩).val + 1 from rfl, sumTo_succ]

/-- What the last expert's point writes. -/
theorem outAt_apply (hpos : ∀ T e, 0 ≤ arg1 m c (ix2 T e)) (t : Fin cfg0.N) (h7 : t.val % 8 = 7) (a d : Fin 1024) :
    outAt m c t (ix2 a d) = Cert.ReferenceIdeal.Moe.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (ix2 (tok t a) d) := by
  unfold outAt
  rw [pay4_apply]
  unfold Cert.ReferenceIdeal.Moe.result
  show Cert.ReferenceIdeal.Moe.normed _ _ _ d = Cert.ReferenceIdeal.Moe.normed _ _ _ d
  have hm : mrow t = ⟨1 + (tok t a).val / 2048, by omega⟩ := Fin.ext (by
    show 1 + t.val / 16 = 1 + (1024 * (t.val / 8) + a.val) / 2048
    omega)
  congr 1
  · funext k
    unfold Cert.ReferenceIdeal.Moe.mixed
    rw [iblk6, iblk7, (state_eq m c hpos t.val t.isLt).2, h7, sumTo_eight, hm]
    rfl
  · funext k
    rw [iblk8]
  · funext k
    rw [iblk9]

/-- The kernel's output array at the end of its run. -/
theorem final10 (hpos : ∀ T e, 0 ≤ arg1 m c (ix2 T e)) :
    (dats m 0 c).arrAt 10 cfg0.N = Cert.ReferenceIdeal.Moe.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) := by
  refine (dats m 0 c).arrAt_eq_of_covers 10 _ (by decide +kernel) fun t hf y => ?_
  have h7 : t.val % 8 = 7 := (flush0_10 t).mp hf
  obtain ⟨a, d, rfl⟩ : ∃ a d : Fin 1024, y = ix2 a d := ⟨y 0, y 1, by ext k; fin_cases k <;> rfl⟩
  blk_simp
  rw [after10]
  have e : (win0_10.blk t).view.emb (ix2 a d) = ix2 (tok t a) d := by
    blk_ext [index10 t, tok]
  rw [e]
  exact outAt_apply m c hpos t h7 a d

/-- The kernel's run leaves that array. -/
theorem post10 (r) (h : Pipeline.FramePost cfgs (dats m) 0 (V m) r) : r.2.mem ((c : Thread nD τ).loc main_v10) = (dats m 0 c).arrAt 10 cfg0.N :=
  (h c).1 10

end Cert.KernelIdeal.Moe
-- ==== Proof.MoeAlgebraic.lean ====
/- The kernel's output array is the reference's. -/
module

public import proofs.«01_k».proof.Defs
public import proofs.«01_k».proof.Proof.Gen.Pre_gate_nonneg
public import proofs.«01_k».proof.Proof.Gen.ReferenceIdeal.Run
public import proofs.«01_k».proof.Proof.Gen.ReferenceIdeal.Read
public import proofs.«01_k».proof.Proof.MoeValue

@[expose] public section

set_option maxRecDepth 16384

noncomputable section

namespace Cert.Proof

open Idealize.ShloMosaic Idealize.SL.Sem

/-- The precondition's comparison, all ones, says that no gate is negative. -/
theorem gates_of_ones (x0 : FVec Ideal Cert.Pre_gate_nonneg.S16384x1024 .bf16) (x1 : FVec Ideal Cert.Pre_gate_nonneg.S16384x8 .f32) (x2 : FVec Ideal Cert.Pre_gate_nonneg.S16384x1024 .f32)
    (x3 : FVec Ideal Cert.Pre_gate_nonneg.S16x6144 .f32) (x4 x5 : FVec Ideal Cert.Pre_gate_nonneg.S8x1024x1408 .f32) (x6 : FVec Ideal Cert.Pre_gate_nonneg.S8x1408x1024 .f32)
    (x7 x8 : FVec Ideal Cert.Pre_gate_nonneg.S1024 .f32) (h : Cert.Pre_gate_nonneg.fn (F := Ideal) x0 x1 x2 x3 x4 x5 x6 x7 x8 = fun _ => 1#1)
    (T : Fin 16384) (e : Fin 8) : (0 : EReal) ≤ x1 (ix2 T e) := by
  have h1 := congrFun h (ix2 T e)
  have h2 : Ideal.cmp .oge (x1 (ix2 T e)) (Ideal.ofBits .f32 0x00000000#32) = 1#1 := h1
  have h3 : BitVec.ofBool (decide (Ideal.ofBits .f32 0x00000000#32 ≤ x1 (ix2 T e))) = 1#1 := h2
  replace h3 := of_decide_eq_true ((Cert.KernelIdeal.Moe.ofBool_one _).mp h3)
  have hz : Ideal.ofBits .f32 0x00000000#32 = (0 : EReal) := by simp [Ideal.ofBits, Ideal.ieee]
  rwa [hz] at h3

theorem algebraic : Cert.algebraic_KernelIdeal_ReferenceIdeal_pre_gate_nonneg := by
  intro m g m' g' hpre hagree
  have hpos : ∀ c T e, (0 : EReal) ≤ Cert.KernelIdeal.Moe.arg1 m c (ix2 T e) := fun c T e => gates_of_ones _ _ _ _ _ _ _ _ _ (hpre c) T e
  refine ⟨fun c => (Cert.KernelIdeal.Moe.dats m 0 c).arrAt 10 Cert.KernelIdeal.cfg0.N, ?_, ?_⟩
  · exact (θ_run _ _ _).mono (fun r h c => ⟨Cert.KernelIdeal.Moe.post10 m c r h.1, h.2.1 c⟩)
      (θ_run_and (Cert.KernelIdeal.Moe.run_post m g) (Cert.KernelIdeal.Moe.frame m g))
  · refine (θ_run Cert.ReferenceIdeal.defs _ _).mono (fun r h c => ⟨(h c).1.trans ?_, (h c).2⟩) (Cert.ReferenceIdeal.Value.run (F := Ideal) m' g')
    obtain ⟨a0, a1, a2, a3, a4, a5, a6, a7, a8⟩ := hagree c
    refine Eq.trans ?_ (Cert.KernelIdeal.Moe.final10 m c (hpos c)).symm
    refine (Cert.ReferenceIdeal.Read.val_main_v44_eq (F := Ideal) m' c).trans ?_
    refine (Cert.ReferenceIdeal.Moe.reference_eq _ _ _ _ _ _ _ _ _).trans ?_
    rw [a0, a1, a2, a3, a4, a5, a6, a7, a8]

end Cert.Proof

end
-- ==== Proof.FfnSpec.lean ====
/- The dense feed-forward part of the first layer: its mathematics at one token, and the reference's result read as it. -/
module

public import proofs.«01_k».proof.Proof.Gen.Reference2Ideal.Read
public import proofs.«01_k».proof.Proof.MoeSpec

@[expose] public section

set_option maxRecDepth 16384

noncomputable section

namespace Cert.Reference2Ideal.Ffn

open Idealize.ShloMosaic Idealize.SL.Sem
open Cert.Reference2Ideal.Read
open Cert.ReferenceIdeal.Moe (normed)
open Cert.KernelIdeal.Moe (act)

variable (x0 : FVec Ideal S16384x1024 .bf16) (x1 : FVec Ideal S16384x1024 .f32) (x2 : FVec Ideal S16x6144 .f32)
variable (x3 x4 : FVec Ideal S1024x2816 .f32) (x5 : FVec Ideal S2816x1024 .f32) (x6 x7 : FVec Ideal S1024 .f32)

/-- The gated unit `f` of a row `u` of activations, for the two weights `a` and `b`. -/
def unitOf {n : ℕ} (u : Fin 1024 → EReal) (a b : Fin 1024 → Fin n → EReal) (f : Fin n) : EReal := act (∑ j, u j * a j f) * (∑ j, u j * b j f)

/-- The feed-forward value of the row `u`, at column `d`. -/
def dense {n : ℕ} (u : Fin 1024 → EReal) (a b : Fin 1024 → Fin n → EReal) (v : Fin n → Fin 1024 → EReal) (d : Fin 1024) : EReal := ∑ f, unitOf u a b f * v f d

theorem dense_apply (T : Fin 16384) (d : Fin 1024) : val_main_v5 (F := Ideal) x0 x3 x4 x5 (ix2 T d)
    = dense (fun j => x0 (ix2 T j)) (fun j f => x3 (ix2 j f)) (fun j f => x4 (ix2 j f)) (fun f k => x5 (ix2 f k)) d := by
  pointwise [val_main_v5, val_main_v4, val_main_v3, val_main_v2, val_main_v1, val_main_v0, val_main_call0_v0, val_main_call0_v1, val_main_call0_v2, val_main_call0_v3, val_main_call0_v4, val_main_call0_v5, val_main_call0_cst, val_main_call0_cst_0]
  simp only [dense, unitOf, act, sub_eq_add_neg, zero_add]

theorem pre_apply (b : Fin 8) (s : Fin 2048) (d : Fin 1024) : val_main_v14 (F := Ideal) x0 x1 x2 x3 x4 x5 (ix3 b s d)
    = Ideal.ofBits .f32 0x3FB504F3#32 * x1 (ix2 ⟨b.val * 2048 + s.val, by omega⟩ d)
      + x2 (ix2 ⟨1 + b.val, by omega⟩ ⟨5120 + d.val, by omega⟩) * val_main_v5 (F := Ideal) x0 x3 x4 x5 (ix2 ⟨b.val * 2048 + s.val, by omega⟩ d) := by
  unfold val_main_v14 val_main_v13 val_main_v6
  generalize val_main_v5 (F := Ideal) x0 x3 x4 x5 = Y
  pointwise [val_main_v12, val_main_v11, val_main_v10, val_main_v9, val_main_v8, val_main_v7, val_main_cst]

theorem norm_apply (b : Fin 8) (s : Fin 2048) (d : Fin 1024) : val_main_v38 (F := Ideal) x0 x1 x2 x3 x4 x5 x6 x7 (ix3 b s d)
    = normed (fun k => val_main_v14 (F := Ideal) x0 x1 x2 x3 x4 x5 (ix3 b s k)) (fun k => x6 (ix1 k)) (fun k => x7 (ix1 k)) d := by
  unfold val_main_v38 val_main_v35 val_main_v32 val_main_v31 val_main_v30 val_main_v29 val_main_v27 val_main_v26 val_main_v25 val_main_v23 val_main_v22 val_main_v21 val_main_v20 val_main_v19 val_main_v18 val_main_v16 val_main_v15
  generalize val_main_v14 (F := Ideal) x0 x1 x2 x3 x4 x5 = Y
  pointwise [val_main_v37, val_main_v36, val_main_v34, val_main_v33, val_main_v28, val_main_v24, val_main_v17, val_main_cst_0, val_main_cst_1, val_main_cst_2, val_main_cst_3, val_main_cst_4]
  rfl

theorem out_apply (T : Fin 16384) (d : Fin 1024) : val_main_v39 (F := Ideal) x0 x1 x2 x3 x4 x5 x6 x7 (ix2 T d)
    = val_main_v38 (F := Ideal) x0 x1 x2 x3 x4 x5 x6 x7 (ix3 ⟨T.val / 2048, by omega⟩ ⟨T.val % 2048, by omega⟩ d) := by
  unfold val_main_v39
  generalize val_main_v38 (F := Ideal) x0 x1 x2 x3 x4 x5 x6 x7 = Y
  pointwise

/-- What the layer norm is taken of: the scaled residual plus the modulated feed-forward value. -/
def mixed (T : Fin 16384) (d : Fin 1024) : EReal :=
  Ideal.ofBits .f32 0x3FB504F3#32 * x1 (ix2 T d)
    + x2 (ix2 ⟨1 + T.val / 2048, by omega⟩ ⟨5120 + d.val, by omega⟩)
      * dense (fun j => x0 (ix2 T j)) (fun j f => x3 (ix2 j f)) (fun j f => x4 (ix2 j f)) (fun f k => x5 (ix2 f k)) d

/-- The result. -/
def result : FVec Ideal S16384x1024 .f32 := fun y =>
  normed (mixed x0 x1 x2 x3 x4 x5 (y 0)) (fun k => x6 (ix1 k)) (fun k => x7 (ix1 k)) (y 1)

/-- The reference computes it. -/
theorem reference_eq : val_main_v39 (F := Ideal) x0 x1 x2 x3 x4 x5 x6 x7 = result x0 x1 x2 x3 x4 x5 x6 x7 := by
  funext y
  obtain ⟨T, d, rfl⟩ : ∃ T d, y = ix2 T d := ⟨y 0, y 1, by ext k; fin_cases k <;> rfl⟩
  rw [out_apply, norm_apply]
  have h : ∀ k, val_main_v14 (F := Ideal) x0 x1 x2 x3 x4 x5 (ix3 ⟨T.val / 2048, by omega⟩ ⟨T.val % 2048, by omega⟩ k) = mixed x0 x1 x2 x3 x4 x5 T k := fun k => by
    rw [pre_apply, dense_apply]
    have e : (⟨T.val / 2048 * 2048 + T.val % 2048, by omega⟩ : Fin 16384) = T := Fin.ext (by dsimp only; omega)
    simp only [e]
    rfl
  simp only [h]
  rfl

end Cert.Reference2Ideal.Ffn

end
-- ==== Proof.FfnValue.lean ====
/- The value of the dense feed-forward kernel: what a block's body computes, and the array that the grid leaves. -/
module

public import proofs.«01_k».proof.Proof.Gen.Kernel2Ideal.Value
public import proofs.«01_k».proof.Proof.Gen.Kernel2Ideal.Points
public import proofs.«01_k».proof.Proof.FfnSpec
public import Idealize.ShloMosaic.Lib.Pointwise
public import Idealize.ShloMosaic.Lib.Claim
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem
open Cert.Kernel2Ideal.Gen
open Cert.Reference2Ideal.Ffn (unitOf dense)
open Cert.ReferenceIdeal.Moe (normed)
open Cert.KernelIdeal.Moe (act)

/-- The second half's gated units. -/
theorem units_apply (v0 : FVec Ideal S512x1024 .bf16) (v20 v31 : FVec Ideal S1024x1408 .bf16) (t : Fin 512) (f : Fin 1408) :
    k0_pay3 (F := Ideal) v0 v20 v31 (ix2 t f) = unitOf (fun j => v0 (ix2 t j)) (fun j f => v20 (ix2 j f)) (fun j f => v31 (ix2 j f)) f := by
  pointwise [k0_pay3]
  rfl

/-- The first half's part of the product. -/
theorem half_apply (v0 : FVec Ideal S512x1024 .bf16) (v1 v12 : FVec Ideal S1024x1408 .bf16) (v17 : FVec Ideal S1408x1024 .bf16) (t : Fin 512) (d : Fin 1024) :
    k0_pay2 (F := Ideal) v0 v1 v12 v17 (ix2 t d)
      = dense (fun j => v0 (ix2 t j)) (fun j f => v1 (ix2 j f)) (fun j f => v12 (ix2 j f)) (fun f k => v17 (ix2 f k)) d := by
  pointwise [k0_pay2]
  rfl

/-- The rest: the second half added, the residual, the layer norm. -/
theorem rest_apply (v19 : FVec Ideal S512x1024 .f32) (v35 : FVec Ideal S512x1408 .bf16) (v36 : FVec Ideal S1408x1024 .bf16) (v40 : FVec Ideal S512x1024 .f32)
    (v43 : FVec Ideal S1x1x1024 .f32) (v48 v50 : FVec Ideal S1x1024 .f32) (t : Fin 512) (d : Fin 1024) :
    k0_pay1 (F := Ideal) v19 v35 v36 v40 v43 v48 v50 (ix2 t d)
      = normed (fun k => Ideal.ofBits .f32 0x3FB504F3#32 * v40 (ix2 t k) + v43 (ix3 0 0 k) * (v19 (ix2 t k) + ∑ f, v35 (ix2 t f) * v36 (ix2 f k)))
          (fun k => v48 (ix2 0 k)) (fun k => v50 (ix2 0 k)) d := by
  pointwise [k0_pay1]
  rfl

/-- The two halves of the units together are all of them. -/
theorem dense_halves (u : Fin 1024 → EReal) (a b : Fin 1024 → Fin 2816 → EReal) (v : Fin 2816 → Fin 1024 → EReal) (d : Fin 1024) :
    dense u (fun j (f : Fin 1408) => a j ⟨f.val, by omega⟩) (fun j f => b j ⟨f.val, by omega⟩) (fun f k => v ⟨f.val, by omega⟩ k) d
      + ∑ f : Fin 1408, unitOf u (fun j (f : Fin 1408) => a j ⟨1408 + f.val, by omega⟩) (fun j f => b j ⟨1408 + f.val, by omega⟩) f * v ⟨1408 + f.val, by omega⟩ d
      = dense u a b v d := by
  unfold dense unitOf
  exact (Fin.sum_univ_add (fun f : Fin (1408 + 1408) => act (∑ j, u j * a j f) * (∑ j, u j * b j f) * v f d)).symm

/-- The same, of halves that are given by their entries. -/
theorem dense_parts (u : Fin 1024 → EReal) (a b : Fin 1024 → Fin 2816 → EReal) (v : Fin 2816 → Fin 1024 → EReal) (d : Fin 1024)
    (a₁ a₂ b₁ b₂ : Fin 1024 → Fin 1408 → EReal) (v₁ v₂ : Fin 1408 → Fin 1024 → EReal)
    (ha₁ : ∀ j f, a₁ j f = a j ⟨f.val, by omega⟩) (ha₂ : ∀ j f, a₂ j f = a j ⟨1408 + f.val, by omega⟩)
    (hb₁ : ∀ j f, b₁ j f = b j ⟨f.val, by omega⟩) (hb₂ : ∀ j f, b₂ j f = b j ⟨1408 + f.val, by omega⟩)
    (hv₁ : ∀ f k, v₁ f k = v ⟨f.val, by omega⟩ k) (hv₂ : ∀ f k, v₂ f k = v ⟨1408 + f.val, by omega⟩ k) :
    dense u a₁ b₁ v₁ d + ∑ f, unitOf u a₂ b₂ f * v₂ f d = dense u a b v d := by
  obtain rfl : a₁ = _ := funext₂ ha₁
  obtain rfl : a₂ = _ := funext₂ ha₂
  obtain rfl : b₁ = _ := funext₂ hb₁
  obtain rfl : b₂ = _ := funext₂ hb₂
  obtain rfl : v₁ = _ := funext₂ hv₁
  obtain rfl : v₂ = _ := funext₂ hv₂
  exact dense_halves u a b v d

/-- What the body leaves in the output block. -/
theorem out_apply (x0 : FVec Ideal S512x1024 .bf16) (x1 x2 : FVec Ideal S1024x2816 .bf16) (x3 : FVec Ideal S2816x1024 .bf16) (x4 : FVec Ideal S512x1024 .f32)
    (x5 : FVec Ideal S1x1x1024 .f32) (x6 x7 : FVec Ideal S1x1024 .f32) (t : Fin 512) (d : Fin 1024) :
    out0_8 (F := Ideal) x0 x1 x2 x3 x4 x5 x6 x7 (ix2 t d)
      = normed (fun k => Ideal.ofBits .f32 0x3FB504F3#32 * x4 (ix2 t k)
          + x5 (ix3 0 0 k) * dense (fun j => x0 (ix2 t j)) (fun j f => x1 (ix2 j f)) (fun j f => x2 (ix2 j f)) (fun f k => x3 (ix2 f k)) k)
          (fun k => x6 (ix2 0 k)) (fun k => x7 (ix2 0 k)) d := by
  have hz : (![0, 0] : Fin S512x1024.rank → Nat) = fun _ => 0 := funext fun a => by fin_cases a <;> rfl
  have hz3 : (![0, 0, 0] : Fin S1x1x1024.rank → Nat) = fun _ => 0 := funext fun a => by fin_cases a <;> rfl
  have hz1 : (![0, 0] : Fin S1x1024.rank → Nat) = fun _ => 0 := funext fun a => by fin_cases a <;> rfl
  have lo : ∀ (X : FVec Ideal S1024x2816 .bf16) (j : Fin 1024) (f : Fin 1408), (View.ld (Val := Elt Ideal) (e' := .bf16) X r0_1 : FVec Ideal S1024x1408 .bf16) (ix2 j f) = X (ix2 j ⟨f.val, by omega⟩) := fun X j f => by
    exact congrArg X (funext fun a => Fin.ext (by fin_cases a <;> simp [Rect.unit, LoadRect.idx, r0_1, r0_2, r0_3, r0_4]))
  have hi : ∀ (X : FVec Ideal S1024x2816 .bf16) (j : Fin 1024) (f : Fin 1408), (View.ld (Val := Elt Ideal) (e' := .bf16) X r0_3 : FVec Ideal S1024x1408 .bf16) (ix2 j f) = X (ix2 j ⟨1408 + f.val, by omega⟩) := fun X j f => by
    exact congrArg X (funext fun a => Fin.ext (by fin_cases a <;> simp [Rect.unit, LoadRect.idx, r0_1, r0_2, r0_3, r0_4]))
  have lo3 : ∀ (X : FVec Ideal S2816x1024 .bf16) (f : Fin 1408) (k : Fin 1024), (View.ld (Val := Elt Ideal) (e' := .bf16) X r0_2 : FVec Ideal S1408x1024 .bf16) (ix2 f k) = X (ix2 ⟨f.val, by omega⟩ k) := fun X j f => by
    exact congrArg X (funext fun a => Fin.ext (by fin_cases a <;> simp [Rect.unit, LoadRect.idx, r0_1, r0_2, r0_3, r0_4]))
  have hi3 : ∀ (X : FVec Ideal S2816x1024 .bf16) (f : Fin 1408) (k : Fin 1024), (View.ld (Val := Elt Ideal) (e' := .bf16) X r0_4 : FVec Ideal S1408x1024 .bf16) (ix2 f k) = X (ix2 ⟨1408 + f.val, by omega⟩ k) := fun X j f => by
    exact congrArg X (funext fun a => Fin.ext (by fin_cases a <;> simp [Rect.unit, LoadRect.idx, r0_1, r0_2, r0_3, r0_4]))
  have w0 : (View.ld (Val := Elt Ideal) (e' := .bf16) x0 r0_0 : FVec Ideal S512x1024 .bf16) = x0 := View.ld_unit_zero (Val := Elt Ideal) (e := .bf16) (S := S512x1024) hz (by decide) x0
  have w4 : (View.ld (Val := Elt Ideal) (e' := .f32) x4 r0_0 : FVec Ideal S512x1024 .f32) = x4 := View.ld_unit_zero (Val := Elt Ideal) (e := .f32) (S := S512x1024) hz (by decide) x4
  have w5 : (View.ld (Val := Elt Ideal) (e' := .f32) x5 r0_5 : FVec Ideal S1x1x1024 .f32) = x5 := View.ld_unit_zero (Val := Elt Ideal) (e := .f32) (S := S1x1x1024) hz3 (by decide) x5
  have w6 : (View.ld (Val := Elt Ideal) (e' := .f32) x6 r0_6 : FVec Ideal S1x1024 .f32) = x6 := View.ld_unit_zero (Val := Elt Ideal) (e := .f32) (S := S1x1024) hz1 (by decide) x6
  have w7 : (View.ld (Val := Elt Ideal) (e' := .f32) x7 r0_6 : FVec Ideal S1x1024 .f32) = x7 := View.ld_unit_zero (Val := Elt Ideal) (e := .f32) (S := S1x1024) hz1 (by decide) x7
  unfold out0_8
  rw [View.canon_unit_zero hz, rest_apply, w0, w4, w5, w6, w7]
  congr 1
  funext k
  rw [half_apply]
  simp only [units_apply]
  refine congrArg (fun z => Ideal.ofBits .f32 0x3FB504F3#32 * x4 (ix2 t k) + x5 (ix3 0 0 k) * z) ?_
  exact dense_parts (fun j => x0 (ix2 t j)) (fun j f => x1 (ix2 j f)) (fun j f => x2 (ix2 j f)) (fun f k => x3 (ix2 f k)) k
    _ _ _ _ _ (fun f k => View.ld (Val := Elt Ideal) (e' := .bf16) x3 r0_4 (ix2 f k)) (lo x1) (hi x1) (lo x2) (hi x2) (lo3 x3) (hi3 x3)

variable (m : (ℓ : Loc nD τ sig) → Buf (Elt Ideal) ℓ) (c : Dev nD) (t : Fin cfg0.N)

theorem lt32 : t.val < 32 := Nat.lt_of_lt_of_eq t.isLt N_0

theorem index0 : win0_0.index t = ![t.val, 0] := by revert t; decide +kernel
theorem index1 : win0_1.index t = ![0, 0] := by revert t; decide +kernel
theorem index2 : win0_2.index t = ![0, 0] := by revert t; decide +kernel
theorem index3 : win0_3.index t = ![0, 0] := by revert t; decide +kernel
theorem index4 : win0_4.index t = ![t.val, 0] := by revert t; decide +kernel
theorem index5 : win0_5.index t = ![1 + t.val / 4, 0, 5] := by revert t; decide +kernel
theorem index6 : win0_6.index t = ![0, 0] := by revert t; decide +kernel
theorem index7 : win0_7.index t = ![0, 0] := by revert t; decide +kernel
theorem index8 : win0_8.index t = ![t.val, 0] := by revert t; decide +kernel

/-- The token at row `a` of the block of point `t`. -/
def tok (a : Fin 512) : Fin 16384 := ⟨512 * t.val + a.val, by have := lt32 t; omega⟩

/-- The row of the modulation table that point `t` uses. -/
def mrow : Fin 16 := ⟨1 + t.val / 4, by have := lt32 t; omega⟩

variable {m c t}

theorem iblk0 (a : Fin 512) (b : Fin 1024) : (iblk m c 0 t : FVec Ideal S512x1024 .bf16) (ix2 a b) = (m ((c : Thread nD τ).loc main_arg0) : FVec Ideal S16384x1024 .bf16) (ix2 (tok t a) b) := by
  blk_ext [iblk, V, index0 t, tok]

theorem iblk1 (j : Fin 1024) (f : Fin 2816) : (iblk m c 1 t : FVec Ideal S1024x2816 .bf16) (ix2 j f) = (m ((c : Thread nD τ).loc main_arg3) : FVec Ideal S1024x2816 .f32) (ix2 j f) := by
  blk_ext [iblk, V, index1 t]

theorem iblk2 (j : Fin 1024) (f : Fin 2816) : (iblk m c 2 t : FVec Ideal S1024x2816 .bf16) (ix2 j f) = (m ((c : Thread nD τ).loc main_arg4) : FVec Ideal S1024x2816 .f32) (ix2 j f) := by
  blk_ext [iblk, V, index2 t]

theorem iblk3 (f : Fin 2816) (d : Fin 1024) : (iblk m c 3 t : FVec Ideal S2816x1024 .bf16) (ix2 f d) = (m ((c : Thread nD τ).loc main_arg5) : FVec Ideal S2816x1024 .f32) (ix2 f d) := by
  blk_ext [iblk, V, index3 t]

theorem iblk4 (a : Fin 512) (b : Fin 1024) : (iblk m c 4 t : FVec Ideal S512x1024 .f32) (ix2 a b) = (m ((c : Thread nD τ).loc main_arg1) : FVec Ideal S16384x1024 .f32) (ix2 (tok t a) b) := by
  blk_ext [iblk, V, index4 t, tok]

theorem entry0 : (V m c main_v0 : FVec Ideal S16x1x6144 .f32) = shapeCast S16x1x6144 (m ((c : Thread nD τ).loc main_arg2) : FVec Ideal S16x6144 .f32) shapeCasts_S16x6144_S16x1x6144 := rfl
theorem entry4 : (V m c main_v4 : FVec Ideal S1x1024 .f32) = shapeCast S1x1024 (m ((c : Thread nD τ).loc main_arg6) : FVec Ideal S1024 .f32) shapeCasts_S1024_S1x1024 := rfl
theorem entry5 : (V m c main_v5 : FVec Ideal S1x1024 .f32) = shapeCast S1x1024 (m ((c : Thread nD τ).loc main_arg7) : FVec Ideal S1024 .f32) shapeCasts_S1024_S1x1024 := rfl

theorem cast0 (X : FVec Ideal S16x6144 .f32) (r : Fin 16) (d : Fin 6144) : shapeCast S16x1x6144 X shapeCasts_S16x6144_S16x1x6144 (ix3 r 0 d) = X (ix2 r d) := by
  pointwise

theorem iblk5 (d : Fin 1024) : (iblk m c 5 t : FVec Ideal S1x1x1024 .f32) (ix3 0 0 d)
    = (m ((c : Thread nD τ).loc main_arg2) : FVec Ideal S16x6144 .f32) (ix2 (mrow t) ⟨5120 + d.val, by omega⟩) := by
  have h : (iblk m c 5 t : FVec Ideal S1x1x1024 .f32) (ix3 0 0 d) = (V m c main_v0 : FVec Ideal S16x1x6144 .f32) (ix3 (mrow t) 0 ⟨5120 + d.val, by omega⟩) := by
    blk_ext [iblk, index5 t, mrow]
  rw [h, entry0]
  exact cast0 _ _ _

theorem iblk6 (d : Fin 1024) : (iblk m c 6 t : FVec Ideal S1x1024 .f32) (ix2 0 d) = (m ((c : Thread nD τ).loc main_arg6) : FVec Ideal S1024 .f32) (ix1 d) := by
  have h : (iblk m c 6 t : FVec Ideal S1x1024 .f32) (ix2 0 d) = (V m c main_v4 : FVec Ideal S1x1024 .f32) (ix2 0 d) := by
    blk_ext [iblk, index6 t]
  rw [h, entry4]
  pointwise

theorem iblk7 (d : Fin 1024) : (iblk m c 7 t : FVec Ideal S1x1024 .f32) (ix2 0 d) = (m ((c : Thread nD τ).loc main_arg7) : FVec Ideal S1024 .f32) (ix1 d) := by
  have h : (iblk m c 7 t : FVec Ideal S1x1024 .f32) (ix2 0 d) = (V m c main_v5 : FVec Ideal S1x1024 .f32) (ix2 0 d) := by
    blk_ext [iblk, index7 t]
  rw [h, entry5]
  pointwise

variable (m c t)

/-- The reference's result on the kernel's arguments. -/
def goal : FVec Ideal S16384x1024 .f32 :=
  Cert.Reference2Ideal.Ffn.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))

/-- A block's body gives its rows of the result. -/
theorem block_eq (a : Fin 512) (d : Fin 1024) :
    out0_8 (F := Ideal) (iblk m c 0 t) (iblk m c 1 t) (iblk m c 2 t) (iblk m c 3 t) (iblk m c 4 t) (iblk m c 5 t) (iblk m c 6 t) (iblk m c 7 t) (ix2 a d)
      = goal m c (ix2 (tok t a) d) := by
  rw [out_apply]
  unfold goal Cert.Reference2Ideal.Ffn.result
  show normed _ _ _ d = normed _ _ _ d
  have hm : mrow t = ⟨1 + (tok t a).val / 2048, by omega⟩ := Fin.ext (by
    show 1 + t.val / 4 = 1 + (512 * t.val + a.val) / 2048
    omega)
  congr 1
  · funext k
    unfold Cert.Reference2Ideal.Ffn.mixed
    simp only [iblk0, iblk1, iblk2, iblk3, iblk4, iblk5, hm]
    rfl
  · funext k
    rw [iblk6]
  · funext k
    rw [iblk7]

/-- The kernel's output array at the end of its run. -/
theorem final8 : (dats m 0 c).arrAt 8 cfg0.N = goal m c := by
  refine (dats m 0 c).arrAt_eq_of_covers 8 _ (by decide +kernel) fun t hf y => ?_
  obtain ⟨a, d, rfl⟩ : ∃ (a : Fin 512) (d : Fin 1024), y = ix2 a d := ⟨y 0, y 1, by ext k; fin_cases k <;> rfl⟩
  blk_simp
  rw [after0_8]
  have e : (win0_8.blk t).view.emb (ix2 a d) = ix2 (tok t a) d := by
    blk_ext [index8 t, tok]
  rw [e]
  exact block_eq m c t a d

end Cert.Kernel2Ideal.Ffn

end
-- ==== Proof.FfnAlgebraic.lean ====
/- The claims about the dense feed-forward call. -/
module

public import proofs.«01_k».proof.Defs
public import proofs.«01_k».proof.Proof.Gen.Kernel2.Frame
public import proofs.«01_k».proof.Proof.Gen.Reference2Ideal.Run
public import proofs.«01_k».proof.Proof.FfnValue
public import Idealize.ShloMosaic.Adequacy

@[expose] public section

set_option maxRecDepth 16384

noncomputable section

namespace Cert.Proof

open Idealize.ShloMosaic Idealize.SL.Sem

theorem frame_Kernel2 : Cert.quiescent_Kernel2 := fun m ρ _ => Cert.Kernel2.Gen.frame m ρ

theorem frame_Kernel2Ideal : Cert.quiescent_Kernel2Ideal := fun m ρ _ => Cert.Kernel2Ideal.Gen.frame m ρ

theorem frame_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal := by
  intro m g m' g' hpre hagree
  refine ⟨fun c => (Cert.Kernel2Ideal.Gen.dats m 0 c).arrAt 8 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨a0, a1, a2, a3, a4, a5, a6, a7⟩ := hagree c
  refine Eq.trans ?_ (Cert.Kernel2Ideal.Ffn.final8 m c).symm
  refine (Cert.Reference2Ideal.Read.val_main_v39_eq (F := Ideal) m' c).trans ?_
  refine (Cert.Reference2Ideal.Ffn.reference_eq _ _ _ _ _ _ _ _).trans ?_
  rw [a0, a1, a2, a3, a4, a5, a6, a7]
  rfl

end Cert.Proof

end
-- ==== Proof.ProjSpec.lean ====
/- The second layer's input projection: its mathematics at one token, and the reference's two results read as it. -/
module

public import proofs.«01_k».proof.Proof.Gen.Reference3Ideal.Read
public import Idealize.ShloMosaic.Lib.Pointwise

@[expose] public section

set_option maxRecDepth 16384

noncomputable section

namespace Cert.Reference3Ideal.Proj

open Idealize.ShloMosaic Idealize.SL.Sem
open Cert.Reference3Ideal.Read

/-- A row of activations under its scale and shift. -/
def modulated {n : ℕ} (x sc sh : Fin n → EReal) (k : Fin n) : EReal := x k * (1 + sc k) + sh k

/-- The product of a row with a matrix of weights, at column `d`. -/
def proj {n p : ℕ} (u : Fin n → EReal) (w : Fin n → Fin p → EReal) (d : Fin p) : EReal := ∑ k, u k * w k d

/-- A row whose first `p` columns are `f`, with zeros after them. -/
def padded {p q : ℕ} (f : Fin p → EReal) (l : Fin q) : EReal := if h : l.val < p then f ⟨l.val, h⟩ else 0

theorem zero_word : FloatOps.sitofp (F := Ideal) .f32 (0#32) = (0 : EReal) := by
  show ((((0#32 : BitVec 32).toInt : ℤ) : ℝ) : EReal) = 0
  simp

variable (x0 : FVec Ideal S16384x1024 .f32) (x1 : FVec Ideal S16x6144 .f32) (x2 : FVec Ideal S1024x5184 .f32)

theorem scaled_apply (b : Fin 8) (s : Fin 2048) (k : Fin 1024) : val_main_v10 (F := Ideal) x0 x1 (ix3 b s k)
    = x0 (ix2 ⟨b.val * 2048 + s.val, by omega⟩ k) * (1 + x1 (ix2 ⟨1 + b.val, by omega⟩ ⟨1024 + k.val, by omega⟩))
      + x1 (ix2 ⟨1 + b.val, by omega⟩ ⟨k.val, by omega⟩) := by
  pointwise [val_main_v10, val_main_v9, val_main_v8, val_main_v7, val_main_v6, val_main_v5, val_main_cst, val_main_v4, val_main_v3, val_main_v2, val_main_v1, val_main_v0]

theorem rows_apply (T : Fin 16384) (k : Fin 1024) : val_main_v11 (F := Ideal) x0 x1 (ix2 T k)
    = val_main_v10 (F := Ideal) x0 x1 (ix3 ⟨T.val / 2048, by omega⟩ ⟨T.val % 2048, by omega⟩ k) := by
  unfold val_main_v11
  generalize val_main_v10 (F := Ideal) x0 x1 = Y
  pointwise

theorem dot_apply (T : Fin 16384) (d : Fin 5184) : val_main_v12 (F := Ideal) x0 x1 x2 (ix2 T d)
    = ∑ k, val_main_v11 (F := Ideal) x0 x1 (ix2 T k) * x2 (ix2 k d) := by
  unfold val_main_v12
  generalize val_main_v11 (F := Ideal) x0 x1 = Y
  pointwise

theorem main_apply (T : Fin 16384) (d : Fin 5120) : val_main_v14 (F := Ideal) x0 x1 x2 (ix2 T d)
    = val_main_v12 (F := Ideal) x0 x1 x2 (ix2 T ⟨d.val, by omega⟩) := by
  unfold val_main_v14 val_main_v13
  generalize val_main_v12 (F := Ideal) x0 x1 x2 = Y
  pointwise

theorem aux_apply (T : Fin 16384) (l : Fin 128) : val_main_v16 (F := Ideal) x0 x1 x2 (ix2 T l)
    = padded (fun j : Fin 64 => val_main_v12 (F := Ideal) x0 x1 x2 (ix2 T ⟨5120 + j.val, by omega⟩)) l := by
  unfold val_main_v16 val_main_v15
  generalize val_main_v12 (F := Ideal) x0 x1 x2 = Y
  pointwise [val_main_call0_v0, val_main_c]
  have h0 : FloatOps.sitofp (F := Ideal) .f32 (0#32) = (0 : EReal) := zero_word
  rw [h0]
  rfl

/-- The row of activations that token `T` gives to the projection. -/
def row (T : Fin 16384) (k : Fin 1024) : EReal :=
  modulated (fun k : Fin 1024 => x0 (ix2 T k)) (fun k => x1 (ix2 ⟨1 + T.val / 2048, by omega⟩ ⟨1024 + k.val, by omega⟩))
    (fun k => x1 (ix2 ⟨1 + T.val / 2048, by omega⟩ ⟨k.val, by omega⟩)) k

/-- The projection of token `T`, at column `d`. -/
def full (T : Fin 16384) (d : Fin 5184) : EReal := proj (row x0 x1 T) (fun k d => x2 (ix2 k d)) d

theorem full_eq (T : Fin 16384) (d : Fin 5184) : val_main_v12 (F := Ideal) x0 x1 x2 (ix2 T d) = full x0 x1 x2 T d := by
  rw [dot_apply]
  have h : ∀ k, val_main_v11 (F := Ideal) x0 x1 (ix2 T k) = row x0 x1 T k := fun k => by
    rw [rows_apply, scaled_apply]
    have e : (⟨T.val / 2048 * 2048 + T.val % 2048, by omega⟩ : Fin 16384) = T := Fin.ext (by dsimp only; omega)
    simp only [e]
    rfl
  simp only [h]
  rfl

/-- The first result: the main columns. -/
def mainResult : FVec Ideal S16384x5120 .bf16 := fun y => full x0 x1 x2 (y 0) ⟨(y 1).val, Nat.lt_of_lt_of_le (y 1).isLt (by decide)⟩

/-- The second result: the step columns, with zeros after them. -/
def auxResult : FVec Ideal S16384x128 .f32 := fun y => padded (fun j : Fin 64 => full x0 x1 x2 (y 0) ⟨5120 + j.val, by omega⟩) (y 1)

theorem main_eq : val_main_v14 (F := Ideal) x0 x1 x2 = mainResult x0 x1 x2 := by
  funext y
  obtain ⟨T, d, rfl⟩ : ∃ T d, y = ix2 T d := ⟨y 0, y 1, by ext k; fin_cases k <;> rfl⟩
  rw [main_apply, full_eq]
  rfl

theorem aux_eq : val_main_v16 (F := Ideal) x0 x1 x2 = auxResult x0 x1 x2 := by
  funext y
  obtain ⟨T, l, rfl⟩ : ∃ T l, y = ix2 T l := ⟨y 0, y 1, by ext k; fin_cases k <;> rfl⟩
  rw [aux_apply]
  simp only [full_eq]
  rfl

end Cert.Reference3Ideal.Proj

end
-- ==== Proof.ProjBody.lean ====
/- What one block's body of the second layer's input projection computes. -/
module

public import proofs.«01_k».proof.Proof.Gen.Kernel3Ideal.Frame
public import proofs.«01_k».proof.Proof.ProjSpec
public import Idealize.ShloMosaic.Lib.Pointwise
public import Idealize.ShloMosaic.Lib.Claim
public import Idealize.ShloMosaic.Lib.Pipeline.ValueKit

@[expose] public section

set_option maxRecDepth 16384

noncomputable section

namespace Cert.Kernel3Ideal.Proj

open Idealize.ShloMosaic Idealize.ShloMosaic.TcCoe Idealize.SL.Sem
open Cert.Kernel3Ideal.Gen
open Cert.Reference3Ideal.Proj (modulated proj padded)

/-- The block's activations under their scale and shift. -/
theorem modulated_apply (v0 : FVec Ideal S512x1024 .f32) (v1 v7 : FVec Ideal S1x1x1024 .f32) (t : Fin 512) (k : Fin 1024) :
    k0_pay4 (F := Ideal) v0 v1 v7 (ix2 t k) = modulated (fun k => v0 (ix2 t k)) (fun k => v1 (ix3 0 0 k)) (fun k => v7 (ix3 0 0 k)) k := by
  pointwise [k0_pay4]
  rfl

theorem rounded_eq (v0 : FVec Ideal S512x1024 .f32) (v1 v7 : FVec Ideal S1x1x1024 .f32) :
    (k0_pay5 (F := Ideal) v0 v1 v7 : FVec Ideal S512x1024 .bf16) = (k0_pay4 (F := Ideal) v0 v1 v7 : FVec Ideal S512x1024 .f32) := rfl

theorem piece0_apply (v0 : FVec Ideal S512x1024 .f32) (v1 v7 : FVec Ideal S1x1x1024 .f32) (w : FVec Ideal S1024x1280 .bf16) (t : Fin 512) (f : Fin 1280) :
    k0_pay7 (F := Ideal) v0 v1 v7 w (ix2 t f) = ∑ k, k0_pay5 (F := Ideal) v0 v1 v7 (ix2 t k) * w (ix2 k f) := by
  unfold k0_pay7
  generalize k0_pay5 (F := Ideal) v0 v1 v7 = U
  pointwise

theorem piece1_apply (U : FVec Ideal S512x1024 .bf16) (w : FVec Ideal S1024x1280 .bf16) (t : Fin 512) (f : Fin 1280) :
    k0_pay1 (F := Ideal) U (k0_pay8 (F := Ideal) w) (ix2 t f) = ∑ k, U (ix2 t k) * w (ix2 k f) := by
  pointwise [k0_pay1, k0_pay8]

theorem piece2_apply (U : FVec Ideal S512x1024 .bf16) (w : FVec Ideal S1024x1280 .bf16) (t : Fin 512) (f : Fin 1280) :
    k0_pay2 (F := Ideal) U w (ix2 t f) = ∑ k, U (ix2 t k) * w (ix2 k f) := by
  pointwise [k0_pay2]

theorem piece3_apply (U : FVec Ideal S512x1024 .bf16) (w : FVec Ideal S1024x1280 .bf16) (t : Fin 512) (f : Fin 1280) :
    k0_pay3 (F := Ideal) U w (ix2 t f) = ∑ k, U (ix2 t k) * w (ix2 k f) := by
  pointwise [k0_pay3]

/-- The step columns, as the three products the body adds. -/
theorem steps_apply (v0 : FVec Ideal S512x1024 .f32) (v1 v7 : FVec Ideal S1x1x1024 .f32) (w : FVec Ideal S1024x256 .bf16) (w' : FVec Ideal S1024x128 .bf16) (t : Fin 512) (l : Fin 128) :
    k0_pay6 (F := Ideal) v0 v1 v7 w w' (ix2 t l)
      = (∑ k, k0_pay4 (F := Ideal) v0 v1 v7 (ix2 t k) * w (ix2 k ⟨l.val, by omega⟩) + ∑ k, k0_pay4 (F := Ideal) v0 v1 v7 (ix2 t k) * w (ix2 k ⟨128 + l.val, by omega⟩))
        + ∑ k, (k0_pay4 (F := Ideal) v0 v1 v7 (ix2 t k) - k0_pay4 (F := Ideal) v0 v1 v7 (ix2 t k)) * w' (ix2 k l) := by
  unfold k0_pay6
  rw [rounded_eq]
  generalize k0_pay4 (F := Ideal) v0 v1 v7 = U
  pointwise

/-- A column block of the product, where it holds an entry of the whole, has the whole's value there. -/
theorem tile (U : FVec Ideal S512x1024 .bf16) (X : FVec Ideal S1024x5120 .bf16) (p : FVec Ideal S512x1280 .bf16) (o : ℕ) (ho : o + 1280 ≤ 5120)
    (hp : ∀ (t : Fin 512) (f : Fin 1280), p (ix2 t f) = ∑ k, U (ix2 t k) * X (ix2 k ⟨o + f.val, by omega⟩)) (t : Fin 512) (d : Fin 5120) :
    View.TileAt (Val := Elt Ideal) (e := .bf16) (S := S512x5120) (ix2 t d) ![0, o] S512x1280.size p (∑ k, U (ix2 t k) * X (ix2 k d)) := by
  intro x hx
  obtain ⟨a, b, rfl⟩ : ∃ (a : Fin 512) (b : Fin 1280), x = ix2 a b := ⟨x 0, x 1, by ext k; fin_cases k <;> rfl⟩
  have h0 : t.val = 0 + a.val := hx 0
  have h1 : d.val = o + b.val := hx 1
  obtain rfl : t = a := Fin.ext (by omega)
  exact (hp t b).trans (Finset.sum_congr rfl fun k _ => congrArg (fun z => U (ix2 t k) * X (ix2 k z)) (Fin.ext h1.symm))

/-- What the body leaves in the first output block. -/
theorem out5_apply (x0 : FVec Ideal S512x1024 .f32) (x1 x2 : FVec Ideal S1x1x1024 .f32) (x3 : FVec Ideal S1024x5120 .bf16) (x4 : FVec Ideal S1024x256 .bf16) (t : Fin 512) (d : Fin 5120) :
    out0_5 (F := Ideal) x0 x1 x2 x3 x4 (ix2 t d)
      = proj (modulated (fun k => x0 (ix2 t k)) (fun k => x2 (ix3 0 0 k)) (fun k => x1 (ix3 0 0 k))) (fun k d => x3 (ix2 k d)) d := by
  have hz : (![0, 0] : Fin S512x1024.rank → Nat) = fun _ => 0 := funext fun a => by fin_cases a <;> rfl
  have hz3 : (![0, 0, 0] : Fin S1x1x1024.rank → Nat) = fun _ => 0 := funext fun a => by fin_cases a <;> rfl
  have w0 : (View.ld (Val := Elt Ideal) (e' := .f32) x0 r0_0 : FVec Ideal S512x1024 .f32) = x0 := View.ld_unit_zero (Val := Elt Ideal) (e := .f32) (S := S512x1024) hz (by decide) x0
  have w1 : (View.ld (Val := Elt Ideal) (e' := .f32) x1 r0_1 : FVec Ideal S1x1x1024 .f32) = x1 := View.ld_unit_zero (Val := Elt Ideal) (e := .f32) (S := S1x1x1024) hz3 (by decide) x1
  have w2 : (View.ld (Val := Elt Ideal) (e' := .f32) x2 r0_1 : FVec Ideal S1x1x1024 .f32) = x2 := View.ld_unit_zero (Val := Elt Ideal) (e := .f32) (S := S1x1x1024) hz3 (by decide) x2
  have c0 : ∀ (j : Fin 1024) (f : Fin 1280), (View.ld (Val := Elt Ideal) (e' := .bf16) x3 r0_5 : FVec Ideal S1024x1280 .bf16) (ix2 j f) = x3 (ix2 j ⟨0 + f.val, by omega⟩) := fun j f => by
    exact congrArg x3 (funext fun a => Fin.ext (by fin_cases a <;> simp [Rect.unit, LoadRect.idx, r0_5]))
  have c1 : ∀ (j : Fin 1024) (f : Fin 1280), (View.ld (Val := Elt Ideal) (e' := .bf16) x3 r0_7 : FVec Ideal S1024x1280 .bf16) (ix2 j f) = x3 (ix2 j ⟨1280 + f.val, by omega⟩) := fun j f => by
    exact congrArg x3 (funext fun a => Fin.ext (by fin_cases a <;> simp [Rect.unit, LoadRect.idx, r0_7]))
  have c2 : ∀ (j : Fin 1024) (f : Fin 1280), (View.ld (Val := Elt Ideal) (e' := .bf16) x3 r0_9 : FVec Ideal S1024x1280 .bf16) (ix2 j f) = x3 (ix2 j ⟨2560 + f.val, by omega⟩) := fun j f => by
    exact congrArg x3 (funext fun a => Fin.ext (by fin_cases a <;> simp [Rect.unit, LoadRect.idx, r0_9]))
  have c3 : ∀ (j : Fin 1024) (f : Fin 1280), (View.ld (Val := Elt Ideal) (e' := .bf16) x3 r0_11 : FVec Ideal S1024x1280 .bf16) (ix2 j f) = x3 (ix2 j ⟨3840 + f.val, by omega⟩) := fun j f => by
    exact congrArg x3 (funext fun a => Fin.ext (by fin_cases a <;> simp [Rect.unit, LoadRect.idx, r0_11]))
  have hU : ∀ k, k0_pay5 (F := Ideal) x0 x2 x1 (ix2 t k) = modulated (fun k => x0 (ix2 t k)) (fun k => x2 (ix3 0 0 k)) (fun k => x1 (ix3 0 0 k)) k := fun k => modulated_apply x0 x2 x1 t k
  unfold out0_5 k0_pay9
  rw [w0, w1, w2]
  refine Eq.trans (b := ∑ k, k0_pay5 (F := Ideal) x0 x2 x1 (ix2 t k) * x3 (ix2 k d)) ?_ (by simp only [hU]; rfl)
  refine View.canon_eq_of_allAt _ _ _ (cover0_5 _ _ _ _ _) ?_
  refine View.allAt_cons_unit _ _ _ _ _ (tile _ x3 _ 3840 (by omega) (fun t f => ?_) t d) ?_
  · rw [piece3_apply]; exact Finset.sum_congr rfl fun k _ => congrArg _ (c3 k f)
  refine View.allAt_cons_unit _ _ _ _ _ (tile _ x3 _ 2560 (by omega) (fun t f => ?_) t d) ?_
  · rw [piece2_apply]; exact Finset.sum_congr rfl fun k _ => congrArg _ (c2 k f)
  refine View.allAt_cons_unit _ _ _ _ _ (tile _ x3 _ 1280 (by omega) (fun t f => ?_) t d) ?_
  · rw [piece1_apply]; exact Finset.sum_congr rfl fun k _ => congrArg _ (c1 k f)
  refine View.allAt_cons_unit _ _ _ _ _ (tile _ x3 _ 0 (by omega) (fun t f => ?_) t d) (View.allAt_nil _ _)
  rw [piece0_apply]; exact Finset.sum_congr rfl fun k _ => congrArg _ (c0 k f)

/-- What the body leaves in the second output block. -/
theorem out6_apply (x0 : FVec Ideal S512x1024 .f32) (x1 x2 : FVec Ideal S1x1x1024 .f32) (x3 : FVec Ideal S1024x5120 .bf16) (x4 : FVec Ideal S1024x256 .bf16) (t : Fin 512) (l : Fin 128)
    (u : Fin 1024 → EReal) (hu : ∀ k, modulated (fun k => x0 (ix2 t k)) (fun k => x2 (ix3 0 0 k)) (fun k => x1 (ix3 0 0 k)) k = u k) :
    out0_6 (F := Ideal) x0 x1 x2 x3 x4 (ix2 t l)
      = (∑ k, u k * x4 (ix2 k ⟨l.val, by omega⟩) + ∑ k, u k * x4 (ix2 k ⟨128 + l.val, by omega⟩)) + ∑ k, (u k - u k) * x4 (ix2 k ⟨l.val, by omega⟩) := by
  have hz : (![0, 0] : Fin S512x1024.rank → Nat) = fun _ => 0 := funext fun a => by fin_cases a <;> rfl
  have hz4 : (![0, 0] : Fin S1024x256.rank → Nat) = fun _ => 0 := funext fun a => by fin_cases a <;> rfl
  have hz3 : (![0, 0, 0] : Fin S1x1x1024.rank → Nat) = fun _ => 0 := funext fun a => by fin_cases a <;> rfl
  have w0 : (View.ld (Val := Elt Ideal) (e' := .f32) x0 r0_0 : FVec Ideal S512x1024 .f32) = x0 := View.ld_unit_zero (Val := Elt Ideal) (e := .f32) (S := S512x1024) hz (by decide) x0
  have w1 : (View.ld (Val := Elt Ideal) (e' := .f32) x1 r0_1 : FVec Ideal S1x1x1024 .f32) = x1 := View.ld_unit_zero (Val := Elt Ideal) (e := .f32) (S := S1x1x1024) hz3 (by decide) x1
  have w2 : (View.ld (Val := Elt Ideal) (e' := .f32) x2 r0_1 : FVec Ideal S1x1x1024 .f32) = x2 := View.ld_unit_zero (Val := Elt Ideal) (e := .f32) (S := S1x1x1024) hz3 (by decide) x2
  have w4 : (View.ld (Val := Elt Ideal) (e' := .bf16) x4 r0_2 : FVec Ideal S1024x256 .bf16) = x4 := View.ld_unit_zero (Val := Elt Ideal) (e := .bf16) (S := S1024x256) hz4 (by decide) x4
  have c : ∀ (j : Fin 1024) (f : Fin 128), (View.ld (Val := Elt Ideal) (e' := .bf16) x4 r0_3 : FVec Ideal S1024x128 .bf16) (ix2 j f) = x4 (ix2 j ⟨f.val, by omega⟩) := fun j f => by
    exact congrArg x4 (funext fun a => Fin.ext (by fin_cases a <;> simp [Rect.unit, LoadRect.idx, r0_3]))
  have hU : ∀ k, k0_pay4 (F := Ideal) x0 x2 x1 (ix2 t k) = u k := fun k => (modulated_apply x0 x2 x1 t k).trans (hu k)
  unfold out0_6
  rw [View.canon_unit_zero hz, w0, w1, w2, w4, steps_apply]
  simp only [hU]
  exact congrArg _ (Finset.sum_congr rfl fun k _ => congrArg _ (c k l))

end Cert.Kernel3Ideal.Proj

end
-- ==== Proof.ProjValue.lean ====
/- The value of the second layer's input projection: the arrays that the grid leaves. -/
module

public import proofs.«01_k».proof.Proof.Gen.Kernel3Ideal.Value
public import proofs.«01_k».proof.Proof.ProjBody

@[expose] public section

set_option maxRecDepth 16384

noncomputable section

namespace Cert.Kernel3Ideal.Proj

open Idealize.ShloMosaic Idealize.ShloMosaic.TcCoe Idealize.SL.Sem
open Cert.Kernel3Ideal.Gen
open Cert.Reference3Ideal.Proj (modulated proj padded row full mainResult auxResult zero_word)

/-- A finite extended real. -/
def Fin' (x : EReal) : Prop := x ≠ ⊤ ∧ x ≠ ⊥

theorem sub_self_of (x : EReal) (h : Fin' x) : x - x = 0 := EReal.sub_self h.1 h.2

theorem modulated_fin {n : ℕ} (x sc sh : Fin n → EReal) (k : Fin n) (hx : Fin' (x k)) (hsc : Fin' (sc k)) (hsh : Fin' (sh k)) : Fin' (modulated x sc sh k) := by
  unfold modulated
  lift x k to ℝ using hx with a
  lift sc k to ℝ using hsc with b
  lift sh k to ℝ using hsh with d
  rw [← EReal.coe_one, ← EReal.coe_add, ← EReal.coe_mul, ← EReal.coe_add]
  exact ⟨EReal.coe_ne_top _, EReal.coe_ne_bot _⟩

/-- With finite rows and weights the two remainders are zero, and the three products are one. -/
theorem split_sum {n : ℕ} (u w r : Fin n → EReal) (hu : ∀ k, Fin' (u k)) (hw : ∀ k, Fin' (w k)) (hr : ∀ k, r k = w k - w k) :
    (∑ k, u k * w k + ∑ k, u k * r k) + ∑ k, (u k - u k) * w k = ∑ k, u k * w k := by
  have h1 : ∑ k, u k * r k = 0 := Finset.sum_eq_zero fun k _ => by rw [hr, sub_self_of _ (hw k), mul_zero]
  have h2 : ∑ k, (u k - u k) * w k = 0 := Finset.sum_eq_zero fun k _ => by rw [sub_self_of _ (hu k), zero_mul]
  rw [h1, h2, add_zero, add_zero]

/-- A row times weights that are zero past the first columns is zero past them. -/
theorem sum_padded {n p q : ℕ} (u : Fin n → EReal) (w : Fin n → Fin p → EReal) (l : Fin q) :
    ∑ k, u k * padded (w k) l = padded (fun j => ∑ k, u k * w k j) l := by
  unfold padded
  by_cases h : l.val < p
  · simp only [dif_pos h]
  · simp only [dif_neg h, mul_zero, Finset.sum_const_zero]

theorem padded_fin {p q : ℕ} (f : Fin p → EReal) (l : Fin q) (h : ∀ j, Fin' (f j)) : Fin' (padded f l) := by
  unfold padded
  split
  · exact h _
  · exact ⟨EReal.zero_ne_top, EReal.zero_ne_bot⟩

variable (m : (ℓ : Loc nD τ sig) → Buf (Elt Ideal) ℓ) (c : Dev nD) (t : Fin cfg0.N)

theorem lt32 : t.val < 32 := Nat.lt_of_lt_of_eq t.isLt N_0

theorem index0 : win0_0.index t = ![t.val, 0] := by revert t; decide +kernel
theorem index1 : win0_1.index t = ![1 + t.val / 4, 0, 0] := by revert t; decide +kernel
theorem index2 : win0_2.index t = ![1 + t.val / 4, 0, 1] := by revert t; decide +kernel
theorem index3 : win0_3.index t = ![0, 0] := by revert t; decide +kernel
theorem index4 : win0_4.index t = ![0, 0] := by revert t; decide +kernel
theorem index5 : win0_5.index t = ![t.val, 0] := by revert t; decide +kernel
theorem index6 : win0_6.index t = ![t.val, 0] := by revert t; decide +kernel

/-- The token at row `a` of the block of point `t`. -/
def tok (a : Fin 512) : Fin 16384 := ⟨512 * t.val + a.val, by have := lt32 t; omega⟩

/-- The row of the modulation table that point `t` uses. -/
def mrow : Fin 16 := ⟨1 + t.val / 4, by have := lt32 t; omega⟩

variable {m c t}

theorem iblk0 (a : Fin 512) (b : Fin 1024) : (iblk m c 0 t : FVec Ideal S512x1024 .f32) (ix2 a b) = (m ((c : Thread nD τ).loc main_arg0) : FVec Ideal S16384x1024 .f32) (ix2 (tok t a) b) := by
  blk_ext [iblk, V, index0 t, tok]

theorem entry0 : (V m c main_v0 : FVec Ideal S16x1x6144 .f32) = shapeCast S16x1x6144 (m ((c : Thread nD τ).loc main_arg1) : FVec Ideal S16x6144 .f32) shapeCasts_S16x6144_S16x1x6144 := rfl

theorem cast0 (X : FVec Ideal S16x6144 .f32) (r : Fin 16) (d : Fin 6144) : shapeCast S16x1x6144 X shapeCasts_S16x6144_S16x1x6144 (ix3 r 0 d) = X (ix2 r d) := by
  pointwise

theorem iblk1 (d : Fin 1024) : (iblk m c 1 t : FVec Ideal S1x1x1024 .f32) (ix3 0 0 d)
    = (m ((c : Thread nD τ).loc main_arg1) : FVec Ideal S16x6144 .f32) (ix2 (mrow t) ⟨d.val, by omega⟩) := by
  have h : (iblk m c 1 t : FVec Ideal S1x1x1024 .f32) (ix3 0 0 d) = (V m c main_v0 : FVec Ideal S16x1x6144 .f32) (ix3 (mrow t) 0 ⟨d.val, by omega⟩) := by
    blk_ext [iblk, index1 t, mrow]
  rw [h, entry0]
  exact cast0 _ _ _

theorem iblk2 (d : Fin 1024) : (iblk m c 2 t : FVec Ideal S1x1x1024 .f32) (ix3 0 0 d)
    = (m ((c : Thread nD τ).loc main_arg1) : FVec Ideal S16x6144 .f32) (ix2 (mrow t) ⟨1024 + d.val, by omega⟩) := by
  have h : (iblk m c 2 t : FVec Ideal S1x1x1024 .f32) (ix3 0 0 d) = (V m c main_v0 : FVec Ideal S16x1x6144 .f32) (ix3 (mrow t) 0 ⟨1024 + d.val, by omega⟩) := by
    blk_ext [iblk, index2 t, mrow]
  rw [h, entry0]
  exact cast0 _ _ _

theorem entry2 : (V m c main_v2 : FVec Ideal S1024x5120 .bf16)
    = extractStridedSlice S1024x5120 ![0, 0] (m ((c : Thread nD τ).loc main_arg2) : FVec Ideal S1024x5184 .f32) slices_S1024x5184_S1024x5120_0_0 := rfl

theorem slice2 (X : FVec Ideal S1024x5184 .f32) (k : Fin 1024) (d : Fin 5120) :
    extractStridedSlice S1024x5120 ![0, 0] X slices_S1024x5184_S1024x5120_0_0 (ix2 k d) = X (ix2 k ⟨d.val, by omega⟩) := by
  pointwise

theorem iblk3 (k : Fin 1024) (d : Fin 5120) : (iblk m c 3 t : FVec Ideal S1024x5120 .bf16) (ix2 k d)
    = (m ((c : Thread nD τ).loc main_arg2) : FVec Ideal S1024x5184 .f32) (ix2 k ⟨d.val, by omega⟩) := by
  have h : (iblk m c 3 t : FVec Ideal S1024x5120 .bf16) (ix2 k d) = (V m c main_v2 : FVec Ideal S1024x5120 .bf16) (ix2 k d) := by
    blk_ext [iblk, index3 t]
  rw [h, entry2]
  exact slice2 _ _ _

/-- The step columns of the weights, padded to a full lane width. -/
def steps (X : FVec Ideal S1024x5184 .f32) : FVec Ideal S1024x128 .f32 :=
  pad S1024x128 ![0, 0] ![0, 64] ![0, 0] (extractStridedSlice S1024x64 ![0, 5120] X slices_S1024x5184_S1024x64_0_5120 : FVec Ideal S1024x64 .f32)
    (sitofp .f32 (constantI S_ 32 0#32) : FVec Ideal S_ .f32) pads_S1024x64_S1024x128_000_0640 h_S_

theorem steps_entry (X : FVec Ideal S1024x5184 .f32) (k : Fin 1024) (l : Fin 128) :
    steps X (ix2 k l) = padded (fun j : Fin 64 => X (ix2 k ⟨5120 + j.val, by omega⟩)) l := by
  pointwise [steps]
  rw [zero_word]
  rfl

theorem entry9 : (V m c main_v9 : FVec Ideal S1024x256 .bf16)
    = concatenate S1024x256 1 [⟨S1024x128, steps (m ((c : Thread nD τ).loc main_arg2))⟩,
        ⟨S1024x128, subf (steps (m ((c : Thread nD τ).loc main_arg2))) (steps (m ((c : Thread nD τ).loc main_arg2)))⟩] concatenates_S1024x128_S1024x128_S1024x256_d1 := rfl

theorem concat_left (P Q : FVec Ideal S1024x128 .bf16) (k : Fin 1024) (l : Fin 128) :
    (concatenate S1024x256 1 [⟨S1024x128, P⟩, ⟨S1024x128, Q⟩] concatenates_S1024x128_S1024x128_S1024x256_d1 : FVec Ideal S1024x256 .bf16) (ix2 k ⟨l.val, by omega⟩) = P (ix2 k l) := by
  pointwise

theorem concat_right (P Q : FVec Ideal S1024x128 .bf16) (k : Fin 1024) (l : Fin 128) :
    (concatenate S1024x256 1 [⟨S1024x128, P⟩, ⟨S1024x128, Q⟩] concatenates_S1024x128_S1024x128_S1024x256_d1 : FVec Ideal S1024x256 .bf16) (ix2 k ⟨128 + l.val, by omega⟩) = Q (ix2 k l) := by
  pointwise

theorem iblk4 (k : Fin 1024) (l : Fin 256) : (iblk m c 4 t : FVec Ideal S1024x256 .bf16) (ix2 k l) = (V m c main_v9 : FVec Ideal S1024x256 .bf16) (ix2 k l) := by
  blk_ext [iblk, index4 t]

theorem iblk4_left (k : Fin 1024) (l : Fin 128) : (iblk m c 4 t : FVec Ideal S1024x256 .bf16) (ix2 k ⟨l.val, by omega⟩)
    = steps (m ((c : Thread nD τ).loc main_arg2)) (ix2 k l) := by
  rw [iblk4, entry9]
  exact concat_left _ _ _ _

theorem iblk4_right (k : Fin 1024) (l : Fin 128) : (iblk m c 4 t : FVec Ideal S1024x256 .bf16) (ix2 k ⟨128 + l.val, by omega⟩)
    = steps (m ((c : Thread nD τ).loc main_arg2)) (ix2 k l) - steps (m ((c : Thread nD τ).loc main_arg2)) (ix2 k l) := by
  rw [iblk4, entry9]
  exact concat_right _ _ _ _

variable (m c t)

/-- The row of activations that token `T` gives, from the kernel's arguments. -/
abbrev rowOf (T : Fin 16384) : Fin 1024 → EReal := row (m ((c : Thread nD τ).loc main_arg0)) (m ((c : Thread nD τ).loc main_arg1)) T

/-- A block's row of activations is its token's. -/
theorem row_eq (a : Fin 512) (k : Fin 1024) :
    modulated (fun k => (iblk m c 0 t : FVec Ideal S512x1024 .f32) (ix2 a k)) (fun k => (iblk m c 2 t : FVec Ideal S1x1x1024 .f32) (ix3 0 0 k))
      (fun k => (iblk m c 1 t : FVec Ideal S1x1x1024 .f32) (ix3 0 0 k)) k = rowOf m c (tok t a) k := by
  have hm : mrow t = ⟨1 + (tok t a).val / 2048, by omega⟩ := Fin.ext (by
    show 1 + t.val / 4 = 1 + (512 * t.val + a.val) / 2048
    omega)
  simp only [iblk0, iblk1, iblk2, hm]
  rfl

/-- The reference's first result on the kernel's arguments. -/
def goal5 : FVec Ideal S16384x5120 .bf16 :=
  mainResult (m ((c : Thread nD τ).loc main_arg0)) (m ((c : Thread nD τ).loc main_arg1)) (m ((c : Thread nD τ).loc main_arg2))

/-- The reference's second result on the kernel's arguments. -/
def goal6 : FVec Ideal S16384x128 .f32 :=
  auxResult (m ((c : Thread nD τ).loc main_arg0)) (m ((c : Thread nD τ).loc main_arg1)) (m ((c : Thread nD τ).loc main_arg2))

theorem block5_eq (a : Fin 512) (d : Fin 5120) :
    out0_5 (F := Ideal) (iblk m c 0 t) (iblk m c 1 t) (iblk m c 2 t) (iblk m c 3 t) (iblk m c 4 t) (ix2 a d) = goal5 m c (ix2 (tok t a) d) := by
  rw [out5_apply]
  unfold proj
  simp only [row_eq, iblk3]
  rfl

/-- The kernel's first output array at the end of its run. -/
theorem final5 : (dats m 0 c).arrAt 5 cfg0.N = goal5 m c := by
  refine (dats m 0 c).arrAt_eq_of_covers 5 _ (by decide +kernel) fun t hf y => ?_
  obtain ⟨a, d, rfl⟩ : ∃ (a : Fin 512) (d : Fin 5120), y = ix2 a d := ⟨y 0, y 1, by ext k; fin_cases k <;> rfl⟩
  blk_simp
  rw [after0_5]
  have e : (win0_5.blk t).view.emb (ix2 a d) = ix2 (tok t a) d := by
    blk_ext [index5 t, tok]
  rw [e]
  exact block5_eq m c t a d

/-- The arguments' entries are all finite. -/
structure Finite : Prop where
  x : ∀ T k, Fin' ((m ((c : Thread nD τ).loc main_arg0) : FVec Ideal S16384x1024 .f32) (ix2 T k))
  mods : ∀ r d, Fin' ((m ((c : Thread nD τ).loc main_arg1) : FVec Ideal S16x6144 .f32) (ix2 r d))
  w : ∀ k d, Fin' ((m ((c : Thread nD τ).loc main_arg2) : FVec Ideal S1024x5184 .f32) (ix2 k d))

theorem block6_eq (hf : Finite m c) (a : Fin 512) (l : Fin 128) :
    out0_6 (F := Ideal) (iblk m c 0 t) (iblk m c 1 t) (iblk m c 2 t) (iblk m c 3 t) (iblk m c 4 t) (ix2 a l) = goal6 m c (ix2 (tok t a) l) := by
  rw [out6_apply _ _ _ _ _ _ _ (rowOf m c (tok t a)) (row_eq m c t a)]
  simp only [iblk4_left, iblk4_right]
  rw [split_sum (rowOf m c (tok t a)) (fun k => steps (m ((c : Thread nD τ).loc main_arg2)) (ix2 k l)) _
    (fun k => modulated_fin _ _ _ k (hf.x _ _) (hf.mods _ _) (hf.mods _ _))
    (fun k => by rw [steps_entry]; exact padded_fin _ _ fun j => hf.w _ _) (fun k => rfl)]
  simp only [steps_entry]
  rw [sum_padded]
  rfl

/-- The kernel's second output array at the end of its run. -/
theorem final6 (hfin : Finite m c) : (dats m 0 c).arrAt 6 cfg0.N = goal6 m c := by
  refine (dats m 0 c).arrAt_eq_of_covers 6 _ (by decide +kernel) fun t hf y => ?_
  obtain ⟨a, l, rfl⟩ : ∃ (a : Fin 512) (l : Fin 128), y = ix2 a l := ⟨y 0, y 1, by ext k; fin_cases k <;> rfl⟩
  blk_simp
  rw [after0_6]
  have e : (win0_6.blk t).view.emb (ix2 a l) = ix2 (tok t a) l := by
    blk_ext [index6 t, tok]
  rw [e]
  exact block6_eq m c t hfin a l

end Cert.Kernel3Ideal.Proj

end
-- ==== Proof.ProjFinite.lean ====
/- The precondition of the input projection, read entry by entry. -/
module

public import proofs.«01_k».proof.Proof.Gen.Pre_mm1_finite
public import proofs.«01_k».proof.Proof.ProjValue
public import proofs.«01_k».proof.Proof.MoeBlocks

@[expose] public section

set_option maxRecDepth 16384

noncomputable section

namespace Cert.Pre_mm1_finite.Read

open Idealize.ShloMosaic Idealize.SL.Sem
open Cert.Pre_mm1_finite Cert.Pre_mm1_finite.Facts
open Cert.Kernel3Ideal.Proj (Fin')

/-- A magnitude below infinity is a finite number's. -/
theorem fin_of_lt (x : EReal) (h : max x (-x) < ⊤) : Fin' x := by
  rw [max_lt_iff] at h
  refine ⟨h.1.ne, ?_⟩
  rintro rfl
  exact absurd h.2 (by simp)

/-- The comparison's one at an entry says that the entry is finite. -/
theorem fin_of_one (x : EReal) (h : Ideal.cmp .olt (max x (-x)) (Ideal.ofBits .f32 0x7F800000#32) = 1#1) : Fin' x := by
  have htop : Ideal.ofBits .f32 0x7F800000#32 = (⊤ : EReal) := by simp [Ideal.ofBits, Ideal.ieee]
  rw [htop] at h
  have h3 : BitVec.ofBool (decide (max x (-x) < ⊤)) = 1#1 := h
  exact fin_of_lt x (of_decide_eq_true ((Cert.KernelIdeal.Moe.ofBool_one _).mp h3))

variable [Facts]

section Parts
variable (X : FVec Ideal S16384x1024 .f32) (Y : FVec Ideal S96x1024 .f32) (Z : FVec Ideal S5184x1024 .f32)

/-- The three arrays, one below the other. -/
def stack : FVec Ideal S21664x1024 .f32 :=
  concatenate S21664x1024 0 [⟨S16384x1024, X⟩, ⟨S96x1024, Y⟩, ⟨S5184x1024, Z⟩] concatenates_S16384x1024_S96x1024_S5184x1024_S21664x1024_d0

theorem stack_first (r : Fin 16384) (k : Fin 1024) : stack X Y Z (ix2 ⟨r.val, by omega⟩ k) = X (ix2 r k) := by
  pointwise [stack]

theorem stack_second (r : Fin 96) (k : Fin 1024) : stack X Y Z (ix2 ⟨16384 + r.val, by omega⟩ k) = Y (ix2 r k) := by
  pointwise [stack]

theorem stack_third (r : Fin 5184) (k : Fin 1024) : stack X Y Z (ix2 ⟨16480 + r.val, by omega⟩ k) = Z (ix2 r k) := by
  pointwise [stack]
  rw [dif_neg (show ¬16480 + r.val < 16384 by omega), dif_neg (show ¬16480 + r.val - 16384 < 96 by omega)]
  exact congrArg (fun z => Z (ix2 z k)) (Fin.ext (show 16480 + r.val - 16384 - 96 = r.val by omega))

end Parts

theorem rows_mods (X : FVec Ideal S16x6144 .f32) (r : Fin 16) (d : Fin 6144) :
    shapeCast S96x1024 X shapeCasts_S16x6144_S96x1024 (ix2 ⟨r.val * 6 + d.val / 1024, by omega⟩ ⟨d.val % 1024, by omega⟩) = X (ix2 r d) := by
  pointwise

theorem rows_w (X : FVec Ideal S1024x5184 .f32) (k : Fin 1024) (d : Fin 5184) :
    shapeCast S5184x1024 X shapeCasts_S1024x5184_S5184x1024 (ix2 ⟨(k.val * 5184 + d.val) / 1024, by omega⟩ ⟨(k.val * 5184 + d.val) % 1024, by omega⟩) = X (ix2 k d) := by
  pointwise

variable (x0 : FVec Ideal S16384x1024 .f32) (x1 : FVec Ideal S16x6144 .f32) (x2 : FVec Ideal S1024x5184 .f32)

theorem stack_fin (h : fn (F := Ideal) x0 x1 x2 = fun _ => 1#1) (y : S21664x1024.Idx) :
    Fin' (stack x0 (shapeCast S96x1024 x1 shapeCasts_S16x6144_S96x1024) (shapeCast S5184x1024 x2 shapeCasts_S1024x5184_S5184x1024) y) :=
  fin_of_one _ (congrFun h y)

theorem x_fin (h : fn (F := Ideal) x0 x1 x2 = fun _ => 1#1) (T : Fin 16384) (k : Fin 1024) : Fin' (x0 (ix2 T k)) := by
  have e := stack_fin x0 x1 x2 h (ix2 ⟨T.val, by omega⟩ k)
  rwa [stack_first] at e

theorem mods_fin (h : fn (F := Ideal) x0 x1 x2 = fun _ => 1#1) (r : Fin 16) (d : Fin 6144) : Fin' (x1 (ix2 r d)) := by
  have e := stack_fin x0 x1 x2 h (ix2 ⟨16384 + (r.val * 6 + d.val / 1024), by omega⟩ ⟨d.val % 1024, by omega⟩)
  rw [← rows_mods x1 r d]
  rwa [stack_second x0 _ _ ⟨r.val * 6 + d.val / 1024, by omega⟩ ⟨d.val % 1024, by omega⟩] at e

theorem w_fin (h : fn (F := Ideal) x0 x1 x2 = fun _ => 1#1) (k : Fin 1024) (d : Fin 5184) : Fin' (x2 (ix2 k d)) := by
  have e := stack_fin x0 x1 x2 h (ix2 ⟨16480 + (k.val * 5184 + d.val) / 1024, by omega⟩ ⟨(k.val * 5184 + d.val) % 1024, by omega⟩)
  rw [← rows_w x2 k d]
  rwa [stack_third x0 _ _ ⟨(k.val * 5184 + d.val) / 1024, by omega⟩ ⟨(k.val * 5184 + d.val) % 1024, by omega⟩] at e

end Cert.Pre_mm1_finite.Read

end
-- ==== Proof.ProjAlgebraic.lean ====
/- The claims about the second layer's input projection. -/
module

public import proofs.«01_k».proof.Defs
public import proofs.«01_k».proof.Proof.Gen.Kernel3.Frame
public import proofs.«01_k».proof.Proof.Gen.Reference3Ideal.Run
public import proofs.«01_k».proof.Proof.ProjFinite
public import Idealize.ShloMosaic.Adequacy

@[expose] public section

set_option maxRecDepth 16384

noncomputable section

namespace Cert.Proof

open Idealize.ShloMosaic Idealize.SL.Sem

theorem frame_Kernel3 : Cert.quiescent_Kernel3 := fun m ρ _ => Cert.Kernel3.Gen.frame m ρ

theorem frame_Kernel3Ideal : Cert.quiescent_Kernel3Ideal := fun m ρ _ => Cert.Kernel3Ideal.Gen.frame m ρ

theorem frame_Reference3Ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic3 : Cert.algebraic_Kernel3Ideal_Reference3Ideal_pre_mm1_finite := by
  intro m g m' g' hpre hagree
  have hfin : ∀ c, Cert.Kernel3Ideal.Proj.Finite m c := fun c =>
    ⟨Cert.Pre_mm1_finite.Read.x_fin _ _ _ (hpre c), Cert.Pre_mm1_finite.Read.mods_fin _ _ _ (hpre c), Cert.Pre_mm1_finite.Read.w_fin _ _ _ (hpre c)⟩
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N,
    Cert.Kernel3Ideal.Value.run_blocks m g, ?_⟩
  refine (θ_run Cert.Reference3Ideal.defs _ _).mono (fun r h c => ⟨(h c).1.trans ?_, (h c).2.1.trans ?_, (h c).2.2⟩) (Cert.Reference3Ideal.Value.run (F := Ideal) m' g')
  · obtain ⟨a0, a1, a2⟩ := hagree c
    refine Eq.trans ?_ (Cert.Kernel3Ideal.Proj.final5 m c).symm
    refine (Cert.Reference3Ideal.Read.val_main_v14_eq (F := Ideal) _ _ _).trans ?_
    refine (Cert.Reference3Ideal.Proj.main_eq _ _ _).trans ?_
    rw [a0, a1, a2]
    rfl
  · obtain ⟨a0, a1, a2⟩ := hagree c
    refine Eq.trans ?_ (Cert.Kernel3Ideal.Proj.final6 m c (hfin c)).symm
    refine (Cert.Reference3Ideal.Read.val_main_v16_eq (F := Ideal) _ _ _).trans ?_
    refine (Cert.Reference3Ideal.Proj.aux_eq _ _ _).trans ?_
    rw [a0, a1, a2]
    rfl

end Cert.Proof

end
-- ==== Proof.GateFinite.lean ====
/- The precondition of the first layer's input projection, read entry by entry. -/
module

public import proofs.«01_k».proof.Proof.Gen.Pre_mm0_finite
public import proofs.«01_k».proof.Proof.ProjFinite

@[expose] public section

set_option maxRecDepth 16384

noncomputable section

namespace Cert.Pre_mm0_finite.Read

open Idealize.ShloMosaic Idealize.SL.Sem
open Cert.Pre_mm0_finite Cert.Pre_mm0_finite.Facts
open Cert.Kernel3Ideal.Proj (Fin')
open Cert.Pre_mm1_finite.Read (fin_of_one)

variable [Facts]

section Parts
variable (X : FVec Ideal S16384x1024 .f32) (Y : FVec Ideal S96x1024 .f32) (Z : FVec Ideal S2848x1024 .f32)

/-- The three arrays, one below the other. -/
def stack : FVec Ideal S19328x1024 .f32 :=
  concatenate S19328x1024 0 [⟨S16384x1024, X⟩, ⟨S96x1024, Y⟩, ⟨S2848x1024, Z⟩] concatenates_S16384x1024_S96x1024_S2848x1024_S19328x1024_d0

theorem stack_first (r : Fin 16384) (k : Fin 1024) : stack X Y Z (ix2 ⟨r.val, by omega⟩ k) = X (ix2 r k) := by
  pointwise [stack]

theorem stack_second (r : Fin 96) (k : Fin 1024) : stack X Y Z (ix2 ⟨16384 + r.val, by omega⟩ k) = Y (ix2 r k) := by
  pointwise [stack]

theorem stack_third (r : Fin 2848) (k : Fin 1024) : stack X Y Z (ix2 ⟨16480 + r.val, by omega⟩ k) = Z (ix2 r k) := by
  pointwise [stack]
  rw [dif_neg (show ¬16480 + r.val < 16384 by omega), dif_neg (show ¬16480 + r.val - 16384 < 96 by omega)]
  exact congrArg (fun z => Z (ix2 z k)) (Fin.ext (show 16480 + r.val - 16384 - 96 = r.val by omega))

end Parts

theorem rows_mods (X : FVec Ideal S16x6144 .f32) (r : Fin 16) (d : Fin 6144) :
    shapeCast S96x1024 X shapeCasts_S16x6144_S96x1024 (ix2 ⟨r.val * 6 + d.val / 1024, by omega⟩ ⟨d.val % 1024, by omega⟩) = X (ix2 r d) := by
  pointwise

theorem rows_w (X : FVec Ideal S1024x2848 .f32) (k : Fin 1024) (d : Fin 2848) :
    shapeCast S2848x1024 X shapeCasts_S1024x2848_S2848x1024 (ix2 ⟨(k.val * 2848 + d.val) / 1024, by omega⟩ ⟨(k.val * 2848 + d.val) % 1024, by omega⟩) = X (ix2 k d) := by
  pointwise

variable (x0 : FVec Ideal S16384x1024 .f32) (x1 : FVec Ideal S16x6144 .f32) (x2 : FVec Ideal S1024x2848 .f32)

theorem stack_fin (h : fn (F := Ideal) x0 x1 x2 = fun _ => 1#1) (y : S19328x1024.Idx) :
    Fin' (stack x0 (shapeCast S96x1024 x1 shapeCasts_S16x6144_S96x1024) (shapeCast S2848x1024 x2 shapeCasts_S1024x2848_S2848x1024) y) :=
  fin_of_one _ (congrFun h y)

theorem x_fin (h : fn (F := Ideal) x0 x1 x2 = fun _ => 1#1) (T : Fin 16384) (k : Fin 1024) : Fin' (x0 (ix2 T k)) := by
  have e := stack_fin x0 x1 x2 h (ix2 ⟨T.val, by omega⟩ k)
  rwa [stack_first] at e

theorem mods_fin (h : fn (F := Ideal) x0 x1 x2 = fun _ => 1#1) (r : Fin 16) (d : Fin 6144) : Fin' (x1 (ix2 r d)) := by
  have e := stack_fin x0 x1 x2 h (ix2 ⟨16384 + (r.val * 6 + d.val / 1024), by omega⟩ ⟨d.val % 1024, by omega⟩)
  rw [← rows_mods x1 r d]
  rwa [stack_second x0 _ _ ⟨r.val * 6 + d.val / 1024, by omega⟩ ⟨d.val % 1024, by omega⟩] at e

theorem w_fin (h : fn (F := Ideal) x0 x1 x2 = fun _ => 1#1) (k : Fin 1024) (d : Fin 2848) : Fin' (x2 (ix2 k d)) := by
  have e := stack_fin x0 x1 x2 h (ix2 ⟨16480 + (k.val * 2848 + d.val) / 1024, by omega⟩ ⟨(k.val * 2848 + d.val) % 1024, by omega⟩)
  rw [← rows_w x2 k d]
  rwa [stack_third x0 _ _ ⟨(k.val * 2848 + d.val) / 1024, by omega⟩ ⟨(k.val * 2848 + d.val) % 1024, by omega⟩] at e

end Cert.Pre_mm0_finite.Read

end
-- ==== Proof.GateBody.lean ====
/- What one block's body of the first layer's input projection computes. -/
module

public import proofs.«01_k».proof.Proof.Gen.Kernel4Ideal.Frame
public import proofs.«01_k».proof.Proof.ProjSpec
public import Idealize.ShloMosaic.Lib.Pointwise
public import Idealize.ShloMosaic.Lib.Claim
public import Idealize.ShloMosaic.Lib.Pipeline.ValueKit

@[expose] public section

set_option maxRecDepth 16384

noncomputable section

namespace Cert.Kernel4Ideal.Proj

open Idealize.ShloMosaic Idealize.ShloMosaic.TcCoe Idealize.SL.Sem
open Cert.Kernel4Ideal.Gen
open Cert.Reference3Ideal.Proj (modulated proj padded)

/-- The block's activations under their scale and shift. -/
theorem modulated_apply (v0 : FVec Ideal S512x1024 .f32) (v1 v7 : FVec Ideal S1x1x1024 .f32) (t : Fin 512) (k : Fin 1024) :
    k0_pay2 (F := Ideal) v0 v1 v7 (ix2 t k) = modulated (fun k => v0 (ix2 t k)) (fun k => v1 (ix3 0 0 k)) (fun k => v7 (ix3 0 0 k)) k := by
  pointwise [k0_pay2]
  rfl

theorem rounded_eq (v0 : FVec Ideal S512x1024 .f32) (v1 v7 : FVec Ideal S1x1x1024 .f32) :
    (k0_pay3 (F := Ideal) v0 v1 v7 : FVec Ideal S512x1024 .bf16) = (k0_pay2 (F := Ideal) v0 v1 v7 : FVec Ideal S512x1024 .f32) := rfl

theorem piece0_apply (v0 : FVec Ideal S512x1024 .f32) (v1 v7 : FVec Ideal S1x1x1024 .f32) (w : FVec Ideal S1024x1408 .bf16) (t : Fin 512) (f : Fin 1408) :
    k0_pay5 (F := Ideal) v0 v1 v7 w (ix2 t f) = ∑ k, k0_pay3 (F := Ideal) v0 v1 v7 (ix2 t k) * w (ix2 k f) := by
  unfold k0_pay5
  generalize k0_pay3 (F := Ideal) v0 v1 v7 = U
  pointwise

theorem piece1_apply (U : FVec Ideal S512x1024 .bf16) (w : FVec Ideal S1024x1408 .bf16) (t : Fin 512) (f : Fin 1408) :
    k0_pay1 (F := Ideal) U (k0_pay6 (F := Ideal) w) (ix2 t f) = ∑ k, U (ix2 t k) * w (ix2 k f) := by
  pointwise [k0_pay1, k0_pay6]

/-- The gate columns, as the three products the body adds. -/
theorem steps_apply (v0 : FVec Ideal S512x1024 .f32) (v1 v7 : FVec Ideal S1x1x1024 .f32) (w : FVec Ideal S1024x256 .bf16) (w' : FVec Ideal S1024x128 .bf16) (t : Fin 512) (l : Fin 128) :
    k0_pay4 (F := Ideal) v0 v1 v7 w w' (ix2 t l)
      = (∑ k, k0_pay2 (F := Ideal) v0 v1 v7 (ix2 t k) * w (ix2 k ⟨l.val, by omega⟩) + ∑ k, k0_pay2 (F := Ideal) v0 v1 v7 (ix2 t k) * w (ix2 k ⟨128 + l.val, by omega⟩))
        + ∑ k, (k0_pay2 (F := Ideal) v0 v1 v7 (ix2 t k) - k0_pay2 (F := Ideal) v0 v1 v7 (ix2 t k)) * w' (ix2 k l) := by
  unfold k0_pay4
  rw [rounded_eq]
  generalize k0_pay2 (F := Ideal) v0 v1 v7 = U
  pointwise

/-- A column block of the product, where it holds an entry of the whole, has the whole's value there. -/
theorem tile (U : FVec Ideal S512x1024 .bf16) (X : FVec Ideal S1024x2816 .bf16) (p : FVec Ideal S512x1408 .bf16) (o : ℕ) (ho : o + 1408 ≤ 2816)
    (hp : ∀ (t : Fin 512) (f : Fin 1408), p (ix2 t f) = ∑ k, U (ix2 t k) * X (ix2 k ⟨o + f.val, by omega⟩)) (t : Fin 512) (d : Fin 2816) :
    View.TileAt (Val := Elt Ideal) (e := .bf16) (S := S512x2816) (ix2 t d) ![0, o] S512x1408.size p (∑ k, U (ix2 t k) * X (ix2 k d)) := by
  intro x hx
  obtain ⟨a, b, rfl⟩ : ∃ (a : Fin 512) (b : Fin 1408), x = ix2 a b := ⟨x 0, x 1, by ext k; fin_cases k <;> rfl⟩
  have h0 : t.val = 0 + a.val := hx 0
  have h1 : d.val = o + b.val := hx 1
  obtain rfl : t = a := Fin.ext (by omega)
  exact (hp t b).trans (Finset.sum_congr rfl fun k _ => congrArg (fun z => U (ix2 t k) * X (ix2 k z)) (Fin.ext h1.symm))

/-- What the body leaves in the first output block. -/
theorem out5_apply (x0 : FVec Ideal S512x1024 .f32) (x1 x2 : FVec Ideal S1x1x1024 .f32) (x3 : FVec Ideal S1024x2816 .bf16) (x4 : FVec Ideal S1024x256 .bf16) (t : Fin 512) (d : Fin 2816) :
    out0_5 (F := Ideal) x0 x1 x2 x3 x4 (ix2 t d)
      = proj (modulated (fun k => x0 (ix2 t k)) (fun k => x2 (ix3 0 0 k)) (fun k => x1 (ix3 0 0 k))) (fun k d => x3 (ix2 k d)) d := by
  have hz : (![0, 0] : Fin S512x1024.rank → Nat) = fun _ => 0 := funext fun a => by fin_cases a <;> rfl
  have hz3 : (![0, 0, 0] : Fin S1x1x1024.rank → Nat) = fun _ => 0 := funext fun a => by fin_cases a <;> rfl
  have w0 : (View.ld (Val := Elt Ideal) (e' := .f32) x0 r0_0 : FVec Ideal S512x1024 .f32) = x0 := View.ld_unit_zero (Val := Elt Ideal) (e := .f32) (S := S512x1024) hz (by decide) x0
  have w1 : (View.ld (Val := Elt Ideal) (e' := .f32) x1 r0_1 : FVec Ideal S1x1x1024 .f32) = x1 := View.ld_unit_zero (Val := Elt Ideal) (e := .f32) (S := S1x1x1024) hz3 (by decide) x1
  have w2 : (View.ld (Val := Elt Ideal) (e' := .f32) x2 r0_1 : FVec Ideal S1x1x1024 .f32) = x2 := View.ld_unit_zero (Val := Elt Ideal) (e := .f32) (S := S1x1x1024) hz3 (by decide) x2
  have c0 : ∀ (j : Fin 1024) (f : Fin 1408), (View.ld (Val := Elt Ideal) (e' := .bf16) x3 r0_5 : FVec Ideal S1024x1408 .bf16) (ix2 j f) = x3 (ix2 j ⟨0 + f.val, by omega⟩) := fun j f => by
    exact congrArg x3 (funext fun a => Fin.ext (by fin_cases a <;> simp [Rect.unit, LoadRect.idx, r0_5]))
  have c1 : ∀ (j : Fin 1024) (f : Fin 1408), (View.ld (Val := Elt Ideal) (e' := .bf16) x3 r0_7 : FVec Ideal S1024x1408 .bf16) (ix2 j f) = x3 (ix2 j ⟨1408 + f.val, by omega⟩) := fun j f => by
    exact congrArg x3 (funext fun a => Fin.ext (by fin_cases a <;> simp [Rect.unit, LoadRect.idx, r0_7]))
  have hU : ∀ k, k0_pay3 (F := Ideal) x0 x2 x1 (ix2 t k) = modulated (fun k => x0 (ix2 t k)) (fun k => x2 (ix3 0 0 k)) (fun k => x1 (ix3 0 0 k)) k := fun k => modulated_apply x0 x2 x1 t k
  unfold out0_5
  rw [w0, w1, w2]
  refine Eq.trans (b := ∑ k, k0_pay3 (F := Ideal) x0 x2 x1 (ix2 t k) * x3 (ix2 k d)) ?_ (by simp only [hU]; rfl)
  refine View.canon_eq_of_allAt _ _ _ (cover0_5 _ _ _) ?_
  refine View.allAt_cons_unit _ _ _ _ _ (tile _ x3 _ 1408 (by omega) (fun t f => ?_) t d) ?_
  · rw [piece1_apply]; exact Finset.sum_congr rfl fun k _ => congrArg _ (c1 k f)
  refine View.allAt_cons_unit _ _ _ _ _ (tile _ x3 _ 0 (by omega) (fun t f => ?_) t d) (View.allAt_nil _ _)
  rw [piece0_apply]; exact Finset.sum_congr rfl fun k _ => congrArg _ (c0 k f)

/-- What the body leaves in the second output block. -/
theorem out6_apply (x0 : FVec Ideal S512x1024 .f32) (x1 x2 : FVec Ideal S1x1x1024 .f32) (x3 : FVec Ideal S1024x2816 .bf16) (x4 : FVec Ideal S1024x256 .bf16) (t : Fin 512) (l : Fin 128)
    (u : Fin 1024 → EReal) (hu : ∀ k, modulated (fun k => x0 (ix2 t k)) (fun k => x2 (ix3 0 0 k)) (fun k => x1 (ix3 0 0 k)) k = u k) :
    out0_6 (F := Ideal) x0 x1 x2 x3 x4 (ix2 t l)
      = (∑ k, u k * x4 (ix2 k ⟨l.val, by omega⟩) + ∑ k, u k * x4 (ix2 k ⟨128 + l.val, by omega⟩)) + ∑ k, (u k - u k) * x4 (ix2 k ⟨l.val, by omega⟩) := by
  have hz : (![0, 0] : Fin S512x1024.rank → Nat) = fun _ => 0 := funext fun a => by fin_cases a <;> rfl
  have hz4 : (![0, 0] : Fin S1024x256.rank → Nat) = fun _ => 0 := funext fun a => by fin_cases a <;> rfl
  have hz3 : (![0, 0, 0] : Fin S1x1x1024.rank → Nat) = fun _ => 0 := funext fun a => by fin_cases a <;> rfl
  have w0 : (View.ld (Val := Elt Ideal) (e' := .f32) x0 r0_0 : FVec Ideal S512x1024 .f32) = x0 := View.ld_unit_zero (Val := Elt Ideal) (e := .f32) (S := S512x1024) hz (by decide) x0
  have w1 : (View.ld (Val := Elt Ideal) (e' := .f32) x1 r0_1 : FVec Ideal S1x1x1024 .f32) = x1 := View.ld_unit_zero (Val := Elt Ideal) (e := .f32) (S := S1x1x1024) hz3 (by decide) x1
  have w2 : (View.ld (Val := Elt Ideal) (e' := .f32) x2 r0_1 : FVec Ideal S1x1x1024 .f32) = x2 := View.ld_unit_zero (Val := Elt Ideal) (e := .f32) (S := S1x1x1024) hz3 (by decide) x2
  have w4 : (View.ld (Val := Elt Ideal) (e' := .bf16) x4 r0_2 : FVec Ideal S1024x256 .bf16) = x4 := View.ld_unit_zero (Val := Elt Ideal) (e := .bf16) (S := S1024x256) hz4 (by decide) x4
  have c : ∀ (j : Fin 1024) (f : Fin 128), (View.ld (Val := Elt Ideal) (e' := .bf16) x4 r0_3 : FVec Ideal S1024x128 .bf16) (ix2 j f) = x4 (ix2 j ⟨f.val, by omega⟩) := fun j f => by
    exact congrArg x4 (funext fun a => Fin.ext (by fin_cases a <;> simp [Rect.unit, LoadRect.idx, r0_3]))
  have hU : ∀ k, k0_pay2 (F := Ideal) x0 x2 x1 (ix2 t k) = u k := fun k => (modulated_apply x0 x2 x1 t k).trans (hu k)
  unfold out0_6
  rw [View.canon_unit_zero hz, w0, w1, w2, w4, steps_apply]
  simp only [hU]
  exact congrArg _ (Finset.sum_congr rfl fun k _ => congrArg _ (c k l))

end Cert.Kernel4Ideal.Proj

end
-- ==== Proof.GateSpec.lean ====
/- The first layer's input projection: its mathematics at one token, and the reference's two results read as it. -/
module

public import proofs.«01_k».proof.Proof.Gen.Reference4Ideal.Read
public import proofs.«01_k».proof.Proof.ProjSpec
public import Idealize.ShloMosaic.Lib.Pointwise

@[expose] public section

set_option maxRecDepth 16384

noncomputable section

namespace Cert.Reference4Ideal.Proj

open Idealize.ShloMosaic Idealize.SL.Sem
open Cert.Reference4Ideal.Read

open Cert.Reference3Ideal.Proj (modulated proj padded zero_word)

/-- The column of the weights that gives main column `d`: the 32 gate columns are left out. -/
def keep (d : Fin 2816) : Fin 2848 := ⟨if d.val < 2048 then d.val else d.val + 32, by split <;> omega⟩

theorem keep_apply {α : Type} (f : Fin 2848 → α) (d : Fin 2816) (x : α)
    (h1 : ∀ h : d.val < 2048, x = f ⟨d.val, by omega⟩) (h2 : ¬d.val < 2048 → x = f ⟨2080 + (d.val - 2048), by omega⟩) : x = f (keep d) := by
  by_cases h : d.val < 2048
  · rw [h1 h]
    exact congrArg f (Fin.ext (by simp [keep, h]))
  · rw [h2 h]
    exact congrArg f (Fin.ext (by simp [keep, h]; omega))

variable (x0 : FVec Ideal S16384x1024 .f32) (x1 : FVec Ideal S16x6144 .f32) (x2 : FVec Ideal S1024x2848 .f32)

theorem scaled_apply (b : Fin 8) (s : Fin 2048) (k : Fin 1024) : val_main_v10 (F := Ideal) x0 x1 (ix3 b s k)
    = x0 (ix2 ⟨b.val * 2048 + s.val, by omega⟩ k) * (1 + x1 (ix2 ⟨1 + b.val, by omega⟩ ⟨1024 + k.val, by omega⟩))
      + x1 (ix2 ⟨1 + b.val, by omega⟩ ⟨k.val, by omega⟩) := by
  pointwise [val_main_v10, val_main_v9, val_main_v8, val_main_v7, val_main_v6, val_main_v5, val_main_cst, val_main_v4, val_main_v3, val_main_v2, val_main_v1, val_main_v0]

theorem rows_apply (T : Fin 16384) (k : Fin 1024) : val_main_v11 (F := Ideal) x0 x1 (ix2 T k)
    = val_main_v10 (F := Ideal) x0 x1 (ix3 ⟨T.val / 2048, by omega⟩ ⟨T.val % 2048, by omega⟩ k) := by
  unfold val_main_v11
  generalize val_main_v10 (F := Ideal) x0 x1 = Y
  pointwise

theorem dot_apply (T : Fin 16384) (d : Fin 2848) : val_main_v12 (F := Ideal) x0 x1 x2 (ix2 T d)
    = ∑ k, val_main_v11 (F := Ideal) x0 x1 (ix2 T k) * x2 (ix2 k d) := by
  unfold val_main_v12
  generalize val_main_v11 (F := Ideal) x0 x1 = Y
  pointwise

theorem main_apply (T : Fin 16384) (d : Fin 2816) : val_main_v16 (F := Ideal) x0 x1 x2 (ix2 T d)
    = val_main_v12 (F := Ideal) x0 x1 x2 (ix2 T (keep d)) := by
  unfold val_main_v16 val_main_v15 val_main_v14 val_main_v13
  generalize val_main_v12 (F := Ideal) x0 x1 x2 = Y
  refine keep_apply (fun z => Y (ix2 T z)) d _ (fun h => ?_) (fun h => ?_)
  · pointwise
    rw [dif_pos h]
  · pointwise
    rw [dif_neg h]

theorem aux_apply (T : Fin 16384) (l : Fin 128) : val_main_v18 (F := Ideal) x0 x1 x2 (ix2 T l)
    = padded (fun j : Fin 32 => val_main_v12 (F := Ideal) x0 x1 x2 (ix2 T ⟨2048 + j.val, by omega⟩)) l := by
  unfold val_main_v18 val_main_v17
  generalize val_main_v12 (F := Ideal) x0 x1 x2 = Y
  pointwise [val_main_call0_v0, val_main_c]
  have h0 : FloatOps.sitofp (F := Ideal) .f32 (0#32) = (0 : EReal) := zero_word
  rw [h0]
  rfl

/-- The row of activations that token `T` gives to the projection. -/
def row (T : Fin 16384) (k : Fin 1024) : EReal :=
  modulated (fun k : Fin 1024 => x0 (ix2 T k)) (fun k => x1 (ix2 ⟨1 + T.val / 2048, by omega⟩ ⟨1024 + k.val, by omega⟩))
    (fun k => x1 (ix2 ⟨1 + T.val / 2048, by omega⟩ ⟨k.val, by omega⟩)) k

/-- The projection of token `T`, at column `d`. -/
def full (T : Fin 16384) (d : Fin 2848) : EReal := proj (row x0 x1 T) (fun k d => x2 (ix2 k d)) d

theorem full_eq (T : Fin 16384) (d : Fin 2848) : val_main_v12 (F := Ideal) x0 x1 x2 (ix2 T d) = full x0 x1 x2 T d := by
  rw [dot_apply]
  have h : ∀ k, val_main_v11 (F := Ideal) x0 x1 (ix2 T k) = row x0 x1 T k := fun k => by
    rw [rows_apply, scaled_apply]
    have e : (⟨T.val / 2048 * 2048 + T.val % 2048, by omega⟩ : Fin 16384) = T := Fin.ext (by dsimp only; omega)
    simp only [e]
    rfl
  simp only [h]
  rfl

/-- The first result: the main columns. -/
def mainResult : FVec Ideal S16384x2816 .bf16 := fun y => full x0 x1 x2 (y 0) (keep (y 1))

/-- The second result: the gate columns, with zeros after them. -/
def auxResult : FVec Ideal S16384x128 .f32 := fun y => padded (fun j : Fin 32 => full x0 x1 x2 (y 0) ⟨2048 + j.val, by omega⟩) (y 1)

theorem main_eq : val_main_v16 (F := Ideal) x0 x1 x2 = mainResult x0 x1 x2 := by
  funext y
  obtain ⟨T, d, rfl⟩ : ∃ T d, y = ix2 T d := ⟨y 0, y 1, by ext k; fin_cases k <;> rfl⟩
  rw [main_apply, full_eq]
  rfl

theorem aux_eq : val_main_v18 (F := Ideal) x0 x1 x2 = auxResult x0 x1 x2 := by
  funext y
  obtain ⟨T, l, rfl⟩ : ∃ T l, y = ix2 T l := ⟨y 0, y 1, by ext k; fin_cases k <;> rfl⟩
  rw [aux_apply]
  simp only [full_eq]
  rfl

end Cert.Reference4Ideal.Proj

end
-- ==== Proof.GateValue.lean ====
/- The value of the first layer's input projection: the arrays that the grid leaves. -/
module

public import proofs.«01_k».proof.Proof.Gen.Kernel4Ideal.Value
public import proofs.«01_k».proof.Proof.GateBody
public import proofs.«01_k».proof.Proof.GateSpec
public import proofs.«01_k».proof.Proof.ProjValue

@[expose] public section

set_option maxRecDepth 16384

noncomputable section

namespace Cert.Kernel4Ideal.Proj

open Idealize.ShloMosaic Idealize.ShloMosaic.TcCoe Idealize.SL.Sem
open Cert.Kernel4Ideal.Gen
open Cert.Reference3Ideal.Proj (modulated proj padded zero_word)
open Cert.Reference4Ideal.Proj (row full mainResult auxResult keep keep_apply)
open Cert.Kernel3Ideal.Proj (Fin' modulated_fin split_sum sum_padded padded_fin)

variable (m : (ℓ : Loc nD τ sig) → Buf (Elt Ideal) ℓ) (c : Dev nD) (t : Fin cfg0.N)

theorem lt32 : t.val < 32 := Nat.lt_of_lt_of_eq t.isLt N_0

theorem index0 : win0_0.index t = ![t.val, 0] := by revert t; decide +kernel
theorem index1 : win0_1.index t = ![1 + t.val / 4, 0, 0] := by revert t; decide +kernel
theorem index2 : win0_2.index t = ![1 + t.val / 4, 0, 1] := by revert t; decide +kernel
theorem index3 : win0_3.index t = ![0, 0] := by revert t; decide +kernel
theorem index4 : win0_4.index t = ![0, 0] := by revert t; decide +kernel
theorem index5 : win0_5.index t = ![t.val, 0] := by revert t; decide +kernel
theorem index6 : win0_6.index t = ![t.val, 0] := by revert t; decide +kernel

/-- The token at row `a` of the block of point `t`. -/
def tok (a : Fin 512) : Fin 16384 := ⟨512 * t.val + a.val, by have := lt32 t; omega⟩

/-- The row of the modulation table that point `t` uses. -/
def mrow : Fin 16 := ⟨1 + t.val / 4, by have := lt32 t; omega⟩

variable {m c t}

theorem iblk0 (a : Fin 512) (b : Fin 1024) : (iblk m c 0 t : FVec Ideal S512x1024 .f32) (ix2 a b) = (m ((c : Thread nD τ).loc main_arg0) : FVec Ideal S16384x1024 .f32) (ix2 (tok t a) b) := by
  blk_ext [iblk, V, index0 t, tok]

theorem entry0 : (V m c main_v0 : FVec Ideal S16x1x6144 .f32) = shapeCast S16x1x6144 (m ((c : Thread nD τ).loc main_arg1) : FVec Ideal S16x6144 .f32) shapeCasts_S16x6144_S16x1x6144 := rfl

theorem cast0 (X : FVec Ideal S16x6144 .f32) (r : Fin 16) (d : Fin 6144) : shapeCast S16x1x6144 X shapeCasts_S16x6144_S16x1x6144 (ix3 r 0 d) = X (ix2 r d) := by
  pointwise

theorem iblk1 (d : Fin 1024) : (iblk m c 1 t : FVec Ideal S1x1x1024 .f32) (ix3 0 0 d)
    = (m ((c : Thread nD τ).loc main_arg1) : FVec Ideal S16x6144 .f32) (ix2 (mrow t) ⟨d.val, by omega⟩) := by
  have h : (iblk m c 1 t : FVec Ideal S1x1x1024 .f32) (ix3 0 0 d) = (V m c main_v0 : FVec Ideal S16x1x6144 .f32) (ix3 (mrow t) 0 ⟨d.val, by omega⟩) := by
    blk_ext [iblk, index1 t, mrow]
  rw [h, entry0]
  exact cast0 _ _ _

theorem iblk2 (d : Fin 1024) : (iblk m c 2 t : FVec Ideal S1x1x1024 .f32) (ix3 0 0 d)
    = (m ((c : Thread nD τ).loc main_arg1) : FVec Ideal S16x6144 .f32) (ix2 (mrow t) ⟨1024 + d.val, by omega⟩) := by
  have h : (iblk m c 2 t : FVec Ideal S1x1x1024 .f32) (ix3 0 0 d) = (V m c main_v0 : FVec Ideal S16x1x6144 .f32) (ix3 (mrow t) 0 ⟨1024 + d.val, by omega⟩) := by
    blk_ext [iblk, index2 t, mrow]
  rw [h, entry0]
  exact cast0 _ _ _

/-- The main columns of the weights, on both sides of the gate columns. -/
def mains (X : FVec Ideal S1024x2848 .f32) : FVec Ideal S1024x2816 .f32 :=
  concatenate S1024x2816 1 [⟨S1024x2048, (extractStridedSlice S1024x2048 ![0, 0] X slices_S1024x2848_S1024x2048_0_0 : FVec Ideal S1024x2048 .f32)⟩,
    ⟨S1024x768, (extractStridedSlice S1024x768 ![0, 2080] X slices_S1024x2848_S1024x768_0_2080 : FVec Ideal S1024x768 .f32)⟩] concatenates_S1024x2048_S1024x768_S1024x2816_d1

theorem mains_entry (X : FVec Ideal S1024x2848 .f32) (k : Fin 1024) (d : Fin 2816) : mains X (ix2 k d) = X (ix2 k (keep d)) := by
  refine keep_apply (fun z => X (ix2 k z)) d _ (fun h => ?_) (fun h => ?_)
  · pointwise [mains]
    rw [dif_pos h]
  · pointwise [mains]
    rw [dif_neg h]

theorem entry4 : (V m c main_v4 : FVec Ideal S1024x2816 .bf16) = mains (m ((c : Thread nD τ).loc main_arg2)) := rfl

theorem iblk3 (k : Fin 1024) (d : Fin 2816) : (iblk m c 3 t : FVec Ideal S1024x2816 .bf16) (ix2 k d)
    = (m ((c : Thread nD τ).loc main_arg2) : FVec Ideal S1024x2848 .f32) (ix2 k (keep d)) := by
  have h : (iblk m c 3 t : FVec Ideal S1024x2816 .bf16) (ix2 k d) = (V m c main_v4 : FVec Ideal S1024x2816 .bf16) (ix2 k d) := by
    blk_ext [iblk, index3 t]
  rw [h, entry4]
  exact mains_entry _ _ _

/-- The gate columns of the weights, padded to a full lane width. -/
def gates (X : FVec Ideal S1024x2848 .f32) : FVec Ideal S1024x128 .f32 :=
  pad S1024x128 ![0, 0] ![0, 96] ![0, 0] (extractStridedSlice S1024x32 ![0, 2048] X slices_S1024x2848_S1024x32_0_2048 : FVec Ideal S1024x32 .f32)
    (sitofp .f32 (constantI S_ 32 0#32) : FVec Ideal S_ .f32) pads_S1024x32_S1024x128_000_0960 h_S_

theorem gates_entry (X : FVec Ideal S1024x2848 .f32) (k : Fin 1024) (l : Fin 128) :
    gates X (ix2 k l) = padded (fun j : Fin 32 => X (ix2 k ⟨2048 + j.val, by omega⟩)) l := by
  pointwise [gates]
  rw [zero_word]
  rfl

theorem entry11 : (V m c main_v11 : FVec Ideal S1024x256 .bf16)
    = concatenate S1024x256 1 [⟨S1024x128, gates (m ((c : Thread nD τ).loc main_arg2))⟩,
        ⟨S1024x128, subf (gates (m ((c : Thread nD τ).loc main_arg2))) (gates (m ((c : Thread nD τ).loc main_arg2)))⟩] concatenates_S1024x128_S1024x128_S1024x256_d1 := rfl

theorem concat_left (P Q : FVec Ideal S1024x128 .bf16) (k : Fin 1024) (l : Fin 128) :
    (concatenate S1024x256 1 [⟨S1024x128, P⟩, ⟨S1024x128, Q⟩] concatenates_S1024x128_S1024x128_S1024x256_d1 : FVec Ideal S1024x256 .bf16) (ix2 k ⟨l.val, by omega⟩) = P (ix2 k l) := by
  pointwise

theorem concat_right (P Q : FVec Ideal S1024x128 .bf16) (k : Fin 1024) (l : Fin 128) :
    (concatenate S1024x256 1 [⟨S1024x128, P⟩, ⟨S1024x128, Q⟩] concatenates_S1024x128_S1024x128_S1024x256_d1 : FVec Ideal S1024x256 .bf16) (ix2 k ⟨128 + l.val, by omega⟩) = Q (ix2 k l) := by
  pointwise

theorem iblk4 (k : Fin 1024) (l : Fin 256) : (iblk m c 4 t : FVec Ideal S1024x256 .bf16) (ix2 k l) = (V m c main_v11 : FVec Ideal S1024x256 .bf16) (ix2 k l) := by
  blk_ext [iblk, index4 t]

theorem iblk4_left (k : Fin 1024) (l : Fin 128) : (iblk m c 4 t : FVec Ideal S1024x256 .bf16) (ix2 k ⟨l.val, by omega⟩)
    = gates (m ((c : Thread nD τ).loc main_arg2)) (ix2 k l) := by
  rw [iblk4, entry11]
  exact concat_left _ _ _ _

theorem iblk4_right (k : Fin 1024) (l : Fin 128) : (iblk m c 4 t : FVec Ideal S1024x256 .bf16) (ix2 k ⟨128 + l.val, by omega⟩)
    = gates (m ((c : Thread nD τ).loc main_arg2)) (ix2 k l) - gates (m ((c : Thread nD τ).loc main_arg2)) (ix2 k l) := by
  rw [iblk4, entry11]
  exact concat_right _ _ _ _

variable (m c t)

/-- The row of activations that token `T` gives, from the kernel's arguments. -/
abbrev rowOf (T : Fin 16384) : Fin 1024 → EReal := row (m ((c : Thread nD τ).loc main_arg0)) (m ((c : Thread nD τ).loc main_arg1)) T

/-- A block's row of activations is its token's. -/
theorem row_eq (a : Fin 512) (k : Fin 1024) :
    modulated (fun k => (iblk m c 0 t : FVec Ideal S512x1024 .f32) (ix2 a k)) (fun k => (iblk m c 2 t : FVec Ideal S1x1x1024 .f32) (ix3 0 0 k))
      (fun k => (iblk m c 1 t : FVec Ideal S1x1x1024 .f32) (ix3 0 0 k)) k = rowOf m c (tok t a) k := by
  have hm : mrow t = ⟨1 + (tok t a).val / 2048, by omega⟩ := Fin.ext (by
    show 1 + t.val / 4 = 1 + (512 * t.val + a.val) / 2048
    omega)
  simp only [iblk0, iblk1, iblk2, hm]
  rfl

/-- The reference's first result on the kernel's arguments. -/
def goal5 : FVec Ideal S16384x2816 .bf16 :=
  mainResult (m ((c : Thread nD τ).loc main_arg0)) (m ((c : Thread nD τ).loc main_arg1)) (m ((c : Thread nD τ).loc main_arg2))

/-- The reference's second result on the kernel's arguments. -/
def goal6 : FVec Ideal S16384x128 .f32 :=
  auxResult (m ((c : Thread nD τ).loc main_arg0)) (m ((c : Thread nD τ).loc main_arg1)) (m ((c : Thread nD τ).loc main_arg2))

theorem block5_eq (a : Fin 512) (d : Fin 2816) :
    out0_5 (F := Ideal) (iblk m c 0 t) (iblk m c 1 t) (iblk m c 2 t) (iblk m c 3 t) (iblk m c 4 t) (ix2 a d) = goal5 m c (ix2 (tok t a) d) := by
  rw [out5_apply]
  unfold proj
  simp only [row_eq, iblk3]
  rfl

/-- The kernel's first output array at the end of its run. -/
theorem final5 : (dats m 0 c).arrAt 5 cfg0.N = goal5 m c := by
  refine (dats m 0 c).arrAt_eq_of_covers 5 _ (by decide +kernel) fun t hf y => ?_
  obtain ⟨a, d, rfl⟩ : ∃ (a : Fin 512) (d : Fin 2816), y = ix2 a d := ⟨y 0, y 1, by ext k; fin_cases k <;> rfl⟩
  blk_simp
  rw [after0_5]
  have e : (win0_5.blk t).view.emb (ix2 a d) = ix2 (tok t a) d := by
    blk_ext [index5 t, tok]
  rw [e]
  exact block5_eq m c t a d

/-- The arguments' entries are all finite. -/
structure Finite : Prop where
  x : ∀ T k, Fin' ((m ((c : Thread nD τ).loc main_arg0) : FVec Ideal S16384x1024 .f32) (ix2 T k))
  mods : ∀ r d, Fin' ((m ((c : Thread nD τ).loc main_arg1) : FVec Ideal S16x6144 .f32) (ix2 r d))
  w : ∀ k d, Fin' ((m ((c : Thread nD τ).loc main_arg2) : FVec Ideal S1024x2848 .f32) (ix2 k d))

theorem block6_eq (hf : Finite m c) (a : Fin 512) (l : Fin 128) :
    out0_6 (F := Ideal) (iblk m c 0 t) (iblk m c 1 t) (iblk m c 2 t) (iblk m c 3 t) (iblk m c 4 t) (ix2 a l) = goal6 m c (ix2 (tok t a) l) := by
  rw [out6_apply _ _ _ _ _ _ _ (rowOf m c (tok t a)) (row_eq m c t a)]
  simp only [iblk4_left, iblk4_right]
  rw [split_sum (rowOf m c (tok t a)) (fun k => gates (m ((c : Thread nD τ).loc main_arg2)) (ix2 k l)) _
    (fun k => modulated_fin _ _ _ k (hf.x _ _) (hf.mods _ _) (hf.mods _ _))
    (fun k => by rw [gates_entry]; exact padded_fin _ _ fun j => hf.w _ _) (fun k => rfl)]
  simp only [gates_entry]
  rw [sum_padded]
  rfl

/-- The kernel's second output array at the end of its run. -/
theorem final6 (hfin : Finite m c) : (dats m 0 c).arrAt 6 cfg0.N = goal6 m c := by
  refine (dats m 0 c).arrAt_eq_of_covers 6 _ (by decide +kernel) fun t hf y => ?_
  obtain ⟨a, l, rfl⟩ : ∃ (a : Fin 512) (l : Fin 128), y = ix2 a l := ⟨y 0, y 1, by ext k; fin_cases k <;> rfl⟩
  blk_simp
  rw [after0_6]
  have e : (win0_6.blk t).view.emb (ix2 a l) = ix2 (tok t a) l := by
    blk_ext [index6 t, tok]
  rw [e]
  exact block6_eq m c t hfin a l

end Cert.Kernel4Ideal.Proj

end
-- ==== Proof.GateAlgebraic.lean ====
/- The claims about the first layer's input projection. -/
module

public import proofs.«01_k».proof.Defs
public import proofs.«01_k».proof.Proof.Gen.Kernel4.Frame
public import proofs.«01_k».proof.Proof.Gen.Reference4Ideal.Run
public import proofs.«01_k».proof.Proof.GateFinite
public import proofs.«01_k».proof.Proof.GateValue
public import Idealize.ShloMosaic.Adequacy

@[expose] public section

set_option maxRecDepth 16384

noncomputable section

namespace Cert.Proof

open Idealize.ShloMosaic Idealize.SL.Sem

theorem frame_Kernel4 : Cert.quiescent_Kernel4 := fun m ρ _ => Cert.Kernel4.Gen.frame m ρ

theorem frame_Kernel4Ideal : Cert.quiescent_Kernel4Ideal := fun m ρ _ => Cert.Kernel4Ideal.Gen.frame m ρ

theorem frame_Reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic4 : Cert.algebraic_Kernel4Ideal_Reference4Ideal_pre_mm0_finite := by
  intro m g m' g' hpre hagree
  have hfin : ∀ c, Cert.Kernel4Ideal.Proj.Finite m c := fun c =>
    ⟨Cert.Pre_mm0_finite.Read.x_fin _ _ _ (hpre c), Cert.Pre_mm0_finite.Read.mods_fin _ _ _ (hpre c), Cert.Pre_mm0_finite.Read.w_fin _ _ _ (hpre c)⟩
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N,
    Cert.Kernel4Ideal.Value.run_blocks m g, ?_⟩
  refine (θ_run Cert.Reference4Ideal.defs _ _).mono (fun r h c => ⟨(h c).1.trans ?_, (h c).2.1.trans ?_, (h c).2.2⟩) (Cert.Reference4Ideal.Value.run (F := Ideal) m' g')
  · obtain ⟨a0, a1, a2⟩ := hagree c
    refine Eq.trans ?_ (Cert.Kernel4Ideal.Proj.final5 m c).symm
    refine (Cert.Reference4Ideal.Read.val_main_v16_eq (F := Ideal) _ _ _).trans ?_
    refine (Cert.Reference4Ideal.Proj.main_eq _ _ _).trans ?_
    rw [a0, a1, a2]
    rfl
  · obtain ⟨a0, a1, a2⟩ := hagree c
    refine Eq.trans ?_ (Cert.Kernel4Ideal.Proj.final6 m c (hfin c)).symm
    refine (Cert.Reference4Ideal.Read.val_main_v18_eq (F := Ideal) _ _ _).trans ?_
    refine (Cert.Reference4Ideal.Proj.aux_eq _ _ _).trans ?_
    rw [a0, a1, a2]
    rfl

end Cert.Proof

end
-- ==== Proof.OutSpec.lean ====
/- The first layer's output projection: its mathematics at one token, and the reference's two results read as it. -/
module

public import proofs.«01_k».proof.Proof.Gen.Reference5Ideal.Read
public import proofs.«01_k».proof.Proof.MoeSpec
public import proofs.«01_k».proof.Proof.ProjSpec
public import Idealize.ShloMosaic.Lib.Pointwise

@[expose] public section

set_option maxRecDepth 16384

noncomputable section

namespace Cert.Reference5Ideal.Out

open Idealize.ShloMosaic Idealize.SL.Sem
open Cert.Reference5Ideal.Read
open Cert.ReferenceIdeal.Moe (normed)
open Cert.Reference3Ideal.Proj (modulated)

variable (x0 x1 : FVec Ideal S16384x512 .bf16) (x2 : FVec Ideal S16384x1024 .f32) (x3 : FVec Ideal S16x6144 .f32)
variable (x4 : FVec Ideal S1024x1024 .f32) (x5 x6 : FVec Ideal S1024 .f32)

/-- The two parts `a` and `b` of a token's mixer value, side by side, times the weights: each part meets its own half of the rows. -/
def joined (a b : Fin 512 → EReal) (w : Fin 1024 → Fin 1024 → EReal) (d : Fin 1024) : EReal :=
  (∑ k : Fin 512, a k * w ⟨k.val, by omega⟩ d) + ∑ k : Fin 512, b k * w ⟨512 + k.val, by omega⟩ d

theorem joined_of (u : Fin 1024 → EReal) (a b : Fin 512 → EReal) (w : Fin 1024 → Fin 1024 → EReal) (d : Fin 1024)
    (ha : ∀ k : Fin 512, u ⟨k.val, by omega⟩ = a k) (hb : ∀ k : Fin 512, u ⟨512 + k.val, by omega⟩ = b k) :
    (∑ k, u k * w k d) = joined a b w d := by
  refine (Fin.sum_univ_add (fun k : Fin (512 + 512) => u k * w k d)).trans ?_
  refine congrArg₂ (· + ·) (Finset.sum_congr rfl fun k _ => ?_) (Finset.sum_congr rfl fun k _ => ?_)
  · exact congrArg (· * w ⟨k.val, by omega⟩ d) (ha k)
  · exact congrArg (· * w ⟨512 + k.val, by omega⟩ d) (hb k)

theorem left_apply (T : Fin 16384) (k : Fin 512) : val_main_v6 (F := Ideal) x0 x1 (ix2 T ⟨k.val, by omega⟩) = x0 (ix2 T k) := by
  pointwise [val_main_v6]

theorem right_apply (T : Fin 16384) (k : Fin 512) : val_main_v6 (F := Ideal) x0 x1 (ix2 T ⟨512 + k.val, by omega⟩) = x1 (ix2 T k) := by
  pointwise [val_main_v6]

theorem dot_apply (T : Fin 16384) (d : Fin 1024) : val_main_v8 (F := Ideal) x0 x1 x4 (ix2 T d)
    = joined (fun k => x0 (ix2 T k)) (fun k => x1 (ix2 T k)) (fun k e => x4 (ix2 k e)) d := by
  refine Eq.trans ?_ (joined_of (fun k => val_main_v6 (F := Ideal) x0 x1 (ix2 T k)) _ _ (fun k e => x4 (ix2 k e)) d (left_apply x0 x1 T) (right_apply x0 x1 T))
  unfold val_main_v8 val_main_v7
  generalize val_main_v6 (F := Ideal) x0 x1 = Y
  pointwise

theorem pre_apply (b : Fin 8) (s : Fin 2048) (d : Fin 1024) : val_main_v15 (F := Ideal) x0 x1 x2 x3 x4 (ix3 b s d)
    = Ideal.ofBits .f32 0x3FB504F3#32 * x2 (ix2 ⟨b.val * 2048 + s.val, by omega⟩ d)
      + x3 (ix2 ⟨1 + b.val, by omega⟩ ⟨2048 + d.val, by omega⟩) * val_main_v8 (F := Ideal) x0 x1 x4 (ix2 ⟨b.val * 2048 + s.val, by omega⟩ d) := by
  unfold val_main_v15 val_main_v14 val_main_v9
  generalize val_main_v8 (F := Ideal) x0 x1 x4 = Y
  pointwise [val_main_v13, val_main_v12, val_main_v11, val_main_v10, val_main_v1, val_main_v0, val_main_cst]

theorem norm_apply (b : Fin 8) (s : Fin 2048) (d : Fin 1024) : val_main_v39 (F := Ideal) x0 x1 x2 x3 x4 x5 x6 (ix3 b s d)
    = normed (fun k => val_main_v15 (F := Ideal) x0 x1 x2 x3 x4 (ix3 b s k)) (fun k => x5 (ix1 k)) (fun k => x6 (ix1 k)) d := by
  unfold val_main_v39 val_main_v36 val_main_v33 val_main_v32 val_main_v31 val_main_v30 val_main_v28 val_main_v27 val_main_v26 val_main_v24 val_main_v23 val_main_v22 val_main_v21 val_main_v20 val_main_v19 val_main_v17 val_main_v16
  generalize val_main_v15 (F := Ideal) x0 x1 x2 x3 x4 = Y
  pointwise [val_main_v38, val_main_v37, val_main_v35, val_main_v34, val_main_v29, val_main_v25, val_main_v18, val_main_cst_0, val_main_cst_1, val_main_cst_2, val_main_cst_3, val_main_cst_4]
  rfl

theorem residual_apply (T : Fin 16384) (d : Fin 1024) : val_main_v46 (F := Ideal) x0 x1 x2 x3 x4 x5 x6 (ix2 T d)
    = val_main_v39 (F := Ideal) x0 x1 x2 x3 x4 x5 x6 (ix3 ⟨T.val / 2048, by omega⟩ ⟨T.val % 2048, by omega⟩ d) := by
  unfold val_main_v46
  generalize val_main_v39 (F := Ideal) x0 x1 x2 x3 x4 x5 x6 = Y
  pointwise

theorem input_apply (T : Fin 16384) (d : Fin 1024) : val_main_v48 (F := Ideal) x0 x1 x2 x3 x4 x5 x6 (ix2 T d)
    = modulated (fun k => val_main_v39 (F := Ideal) x0 x1 x2 x3 x4 x5 x6 (ix3 ⟨T.val / 2048, by omega⟩ ⟨T.val % 2048, by omega⟩ k))
        (fun k => x3 (ix2 ⟨1 + T.val / 2048, by omega⟩ ⟨4096 + k.val, by omega⟩)) (fun k => x3 (ix2 ⟨1 + T.val / 2048, by omega⟩ ⟨3072 + k.val, by omega⟩)) d := by
  unfold val_main_v48 val_main_v47 val_main_v45 val_main_v43
  generalize val_main_v39 (F := Ideal) x0 x1 x2 x3 x4 x5 x6 = Y
  pointwise [val_main_v44, val_main_v42, val_main_v41, val_main_v40, val_main_v5, val_main_v4, val_main_v3, val_main_v2, val_main_cst_5]
  rfl

/-- What the layer norm is taken of: the scaled residual plus the gated product. -/
def mixed (T : Fin 16384) (d : Fin 1024) : EReal :=
  Ideal.ofBits .f32 0x3FB504F3#32 * x2 (ix2 T d)
    + x3 (ix2 ⟨1 + T.val / 2048, by omega⟩ ⟨2048 + d.val, by omega⟩)
      * joined (fun k => x0 (ix2 T k)) (fun k => x1 (ix2 T k)) (fun k e => x4 (ix2 k e)) d

/-- The first result, at one token: the new residual. -/
def residual (T : Fin 16384) : Fin 1024 → EReal :=
  normed (mixed x0 x1 x2 x3 x4 T) (fun k => x5 (ix1 k)) (fun k => x6 (ix1 k))

/-- The first result. -/
def residualResult : FVec Ideal S16384x1024 .f32 := fun y => residual x0 x1 x2 x3 x4 x5 x6 (y 0) (y 1)

/-- The second result: the feed-forward part's input, the new residual scaled and shifted. -/
def inputResult : FVec Ideal S16384x1024 .bf16 := fun y =>
  modulated (residual x0 x1 x2 x3 x4 x5 x6 (y 0)) (fun k => x3 (ix2 ⟨1 + (y 0).val / 2048, by have := (y 0).isLt; change (y 0).val < 16384 at this; omega⟩ ⟨4096 + k.val, by omega⟩))
    (fun k => x3 (ix2 ⟨1 + (y 0).val / 2048, by have := (y 0).isLt; change (y 0).val < 16384 at this; omega⟩ ⟨3072 + k.val, by omega⟩)) (y 1)

theorem residual_eq (T : Fin 16384) (d : Fin 1024) :
    val_main_v39 (F := Ideal) x0 x1 x2 x3 x4 x5 x6 (ix3 ⟨T.val / 2048, by omega⟩ ⟨T.val % 2048, by omega⟩ d) = residual x0 x1 x2 x3 x4 x5 x6 T d := by
  rw [norm_apply]
  have h : ∀ k, val_main_v15 (F := Ideal) x0 x1 x2 x3 x4 (ix3 ⟨T.val / 2048, by omega⟩ ⟨T.val % 2048, by omega⟩ k) = mixed x0 x1 x2 x3 x4 T k := fun k => by
    rw [pre_apply, dot_apply]
    have e : (⟨T.val / 2048 * 2048 + T.val % 2048, by omega⟩ : Fin 16384) = T := Fin.ext (by dsimp only; omega)
    simp only [e]
    rfl
  simp only [h]
  rfl

/-- The reference computes the first result. -/
theorem first_eq : val_main_v46 (F := Ideal) x0 x1 x2 x3 x4 x5 x6 = residualResult x0 x1 x2 x3 x4 x5 x6 := by
  funext y
  obtain ⟨T, d, rfl⟩ : ∃ T d, y = ix2 T d := ⟨y 0, y 1, by ext k; fin_cases k <;> rfl⟩
  rw [residual_apply, residual_eq]
  rfl

/-- The reference computes the second result. -/
theorem second_eq : val_main_v48 (F := Ideal) x0 x1 x2 x3 x4 x5 x6 = inputResult x0 x1 x2 x3 x4 x5 x6 := by
  funext y
  obtain ⟨T, d, rfl⟩ : ∃ T d, y = ix2 T d := ⟨y 0, y 1, by ext k; fin_cases k <;> rfl⟩
  rw [input_apply]
  simp only [residual_eq]
  rfl

end Cert.Reference5Ideal.Out

end
-- ==== Proof.OutValue.lean ====
/- The value of the first layer's output projection kernel: what a block's body computes, and the two arrays that the grid leaves. -/
module

public import proofs.«01_k».proof.Proof.Gen.Kernel5Ideal.Value
public import proofs.«01_k».proof.Proof.Gen.Kernel5Ideal.Points
public import proofs.«01_k».proof.Proof.OutSpec
public import Idealize.ShloMosaic.Lib.Pointwise
public import Idealize.ShloMosaic.Lib.Claim
public import Idealize.ShloMosaic.Lib.Pipeline.ValueKit

@[expose] public section

set_option maxRecDepth 16384

noncomputable section

namespace Cert.Kernel5Ideal.Out

open Idealize.ShloMosaic Idealize.ShloMosaic.TcCoe Idealize.SL.Sem
open Cert.Kernel5Ideal.Gen
open Cert.Reference5Ideal.Out (joined mixed residualResult inputResult)
open Cert.ReferenceIdeal.Moe (normed)
open Cert.Reference3Ideal.Proj (modulated)

/-- The row that the body's layer norm is taken of. -/
def rowOf (v0 : FVec Ideal S512x512 .bf16) (v1 : FVec Ideal S512x1024 .bf16) (v4 : FVec Ideal S512x512 .bf16) (v5 : FVec Ideal S512x1024 .bf16)
    (v9 : FVec Ideal S512x1024 .f32) (v12 : FVec Ideal S1x1x1024 .f32) (t : Fin 512) (k : Fin 1024) : EReal :=
  Ideal.ofBits .f32 0x3FB504F3#32 * v9 (ix2 t k) + v12 (ix3 0 0 k) * ((∑ j, v0 (ix2 t j) * v1 (ix2 j k)) + ∑ j, v4 (ix2 t j) * v5 (ix2 j k))

/-- The layer norm of the body. -/
theorem norm_apply (v0 : FVec Ideal S512x512 .bf16) (v1 : FVec Ideal S512x1024 .bf16) (v4 : FVec Ideal S512x512 .bf16) (v5 : FVec Ideal S512x1024 .bf16)
    (v9 : FVec Ideal S512x1024 .f32) (v12 : FVec Ideal S1x1x1024 .f32) (v17 v19 : FVec Ideal S1x1024 .f32) (t : Fin 512) (d : Fin 1024) :
    k0_pay1 (F := Ideal) (k0_pay3 (F := Ideal) v17) (k0_pay4 (F := Ideal) v19) (k0_pay5 (F := Ideal) v0 v1 v4 v5 v9 v12) (k0_pay6 (F := Ideal) v0 v1 v4 v5 v9 v12) (ix2 t d)
      = normed (rowOf v0 v1 v4 v5 v9 v12 t) (fun k => v17 (ix2 0 k)) (fun k => v19 (ix2 0 k)) d := by
  pointwise [k0_pay1, k0_pay3, k0_pay4, k0_pay5, k0_pay6]
  rfl

/-- The second store's value: the first one scaled and shifted. -/
theorem input_apply (v18 v20 : FVec Ideal S1x1024 .f32) (v26 : FVec Ideal S512x1024 .f32) (v33 : FVec Ideal S512x1 .f32) (v42 v48 : FVec Ideal S1x1x1024 .f32)
    (t : Fin 512) (d : Fin 1024) :
    k0_pay2 (F := Ideal) v18 v20 v26 v33 v42 v48 (ix2 t d)
      = modulated (fun k => k0_pay1 (F := Ideal) v18 v20 v26 v33 (ix2 t k)) (fun k => v42 (ix3 0 0 k)) (fun k => v48 (ix3 0 0 k)) d := by
  unfold k0_pay2
  generalize k0_pay1 (F := Ideal) v18 v20 v26 v33 = Y
  pointwise
  rfl

section loads
variable (x0 x1 : FVec Ideal S512x512 .bf16) (x2 x3 : FVec Ideal S512x1024 .bf16) (x4 : FVec Ideal S512x1024 .f32)
  (x5 x6 x7 : FVec Ideal S1x1x1024 .f32) (x8 x9 : FVec Ideal S1x1024 .f32)

theorem whole0 (x : FVec Ideal S512x512 .bf16) : (View.ld (Val := Elt Ideal) (e' := .bf16) x r0_0 : FVec Ideal S512x512 .bf16) = x :=
  View.ld_unit_zero (Val := Elt Ideal) (e := .bf16) (S := S512x512) (funext fun a => by fin_cases a <;> rfl) (by decide) x

theorem whole1 (x : FVec Ideal S512x1024 .bf16) : (View.ld (Val := Elt Ideal) (e' := .bf16) x r0_1 : FVec Ideal S512x1024 .bf16) = x :=
  View.ld_unit_zero (Val := Elt Ideal) (e := .bf16) (S := S512x1024) (funext fun a => by fin_cases a <;> rfl) (by decide) x

theorem whole1f (x : FVec Ideal S512x1024 .f32) : (View.ld (Val := Elt Ideal) (e' := .f32) x r0_1 : FVec Ideal S512x1024 .f32) = x :=
  View.ld_unit_zero (Val := Elt Ideal) (e := .f32) (S := S512x1024) (funext fun a => by fin_cases a <;> rfl) (by decide) x

theorem whole2 (x : FVec Ideal S1x1x1024 .f32) : (View.ld (Val := Elt Ideal) (e' := .f32) x r0_2 : FVec Ideal S1x1x1024 .f32) = x :=
  View.ld_unit_zero (Val := Elt Ideal) (e := .f32) (S := S1x1x1024) (funext fun a => by fin_cases a <;> rfl) (by decide) x

theorem whole3 (x : FVec Ideal S1x1024 .f32) : (View.ld (Val := Elt Ideal) (e' := .f32) x r0_3 : FVec Ideal S1x1024 .f32) = x :=
  View.ld_unit_zero (Val := Elt Ideal) (e := .f32) (S := S1x1024) (funext fun a => by fin_cases a <;> rfl) (by decide) x

/-- The value of the first store, at one row of the block. -/
theorem value_apply (t : Fin 512) (d : Fin 1024) :
    k0_pay1 (F := Ideal) (k0_pay7 (F := Ideal) x0 x1 x2 x3 x4 x5 x6 x7 x8 x9) (k0_pay8 (F := Ideal) x0 x1 x2 x3 x4 x5 x6 x7 x8 x9)
        (k0_pay9 (F := Ideal) x0 x1 x2 x3 x4 x5 x6 x7 x8 x9) (k0_pay10 (F := Ideal) x0 x1 x2 x3 x4 x5 x6 x7 x8 x9) (ix2 t d)
      = normed (rowOf x0 x2 x1 x3 x4 x5 t) (fun k => x8 (ix2 0 k)) (fun k => x9 (ix2 0 k)) d := by
  unfold k0_pay7 k0_pay8 k0_pay9 k0_pay10
  rw [whole0 x0, whole0 x1, whole1 x2, whole1 x3, whole1f x4, whole2 x5, whole3 x8, whole3 x9]
  exact norm_apply x0 x2 x1 x3 x4 x5 x8 x9 t d

/-- What the body leaves in the block of the first result. -/
theorem out10_apply (t : Fin 512) (d : Fin 1024) :
    out0_10 (F := Ideal) x0 x1 x2 x3 x4 x5 x6 x7 x8 x9 (ix2 t d)
      = normed (rowOf x0 x2 x1 x3 x4 x5 t) (fun k => x8 (ix2 0 k)) (fun k => x9 (ix2 0 k)) d := by
  have hz : (![0, 0] : Fin S512x1024.rank → Nat) = fun _ => 0 := funext fun a => by fin_cases a <;> rfl
  unfold out0_10
  rw [View.canon_unit_zero hz]
  exact value_apply x0 x1 x2 x3 x4 x5 x6 x7 x8 x9 t d

/-- What the body leaves in the block of the second result. -/
theorem out11_apply (t : Fin 512) (d : Fin 1024) :
    out0_11 (F := Ideal) x0 x1 x2 x3 x4 x5 x6 x7 x8 x9 (ix2 t d)
      = modulated (normed (rowOf x0 x2 x1 x3 x4 x5 t) (fun k => x8 (ix2 0 k)) (fun k => x9 (ix2 0 k))) (fun k => x7 (ix3 0 0 k)) (fun k => x6 (ix3 0 0 k)) d := by
  have hz : (![0, 0] : Fin S512x1024.rank → Nat) = fun _ => 0 := funext fun a => by fin_cases a <;> rfl
  unfold out0_11
  rw [View.canon_unit_zero hz, input_apply, whole2 x6, whole2 x7]
  simp only [value_apply]

end loads

variable (m : (ℓ : Loc nD τ sig) → Buf (Elt Ideal) ℓ) (c : Dev nD) (t : Fin cfg0.N)

theorem lt32 : t.val < 32 := Nat.lt_of_lt_of_eq t.isLt N_0

theorem index0 : win0_0.index t = ![t.val, 0] := by revert t; decide +kernel
theorem index1 : win0_1.index t = ![t.val, 0] := by revert t; decide +kernel
theorem index2 : win0_2.index t = ![0, 0] := by revert t; decide +kernel
theorem index3 : win0_3.index t = ![0, 0] := by revert t; decide +kernel
theorem index4 : win0_4.index t = ![t.val, 0] := by revert t; decide +kernel
theorem index5 : win0_5.index t = ![1 + t.val / 4, 0, 2] := by revert t; decide +kernel
theorem index6 : win0_6.index t = ![1 + t.val / 4, 0, 3] := by revert t; decide +kernel
theorem index7 : win0_7.index t = ![1 + t.val / 4, 0, 4] := by revert t; decide +kernel
theorem index8 : win0_8.index t = ![0, 0] := by revert t; decide +kernel
theorem index9 : win0_9.index t = ![0, 0] := by revert t; decide +kernel
theorem index10 : win0_10.index t = ![t.val, 0] := by revert t; decide +kernel
theorem index11 : win0_11.index t = ![t.val, 0] := by revert t; decide +kernel

/-- The token at row `a` of the block of point `t`. -/
def tok (a : Fin 512) : Fin 16384 := ⟨512 * t.val + a.val, by have := lt32 t; omega⟩

/-- The row of the modulation table that point `t` uses. -/
def mrow : Fin 16 := ⟨1 + t.val / 4, by have := lt32 t; omega⟩

variable {m c t}

theorem iblk0 (a : Fin 512) (b : Fin 512) : (iblk m c 0 t : FVec Ideal S512x512 .bf16) (ix2 a b) = (m ((c : Thread nD τ).loc main_arg0) : FVec Ideal S16384x512 .bf16) (ix2 (tok t a) b) := by
  blk_ext [iblk, V, index0 t, tok]

theorem iblk1 (a : Fin 512) (b : Fin 512) : (iblk m c 1 t : FVec Ideal S512x512 .bf16) (ix2 a b) = (m ((c : Thread nD τ).loc main_arg1) : FVec Ideal S16384x512 .bf16) (ix2 (tok t a) b) := by
  blk_ext [iblk, V, index1 t, tok]

theorem iblk4 (a : Fin 512) (b : Fin 1024) : (iblk m c 4 t : FVec Ideal S512x1024 .f32) (ix2 a b) = (m ((c : Thread nD τ).loc main_arg2) : FVec Ideal S16384x1024 .f32) (ix2 (tok t a) b) := by
  blk_ext [iblk, V, index4 t, tok]

theorem entry0 : (V m c main_v0 : FVec Ideal S16x1x6144 .f32) = shapeCast S16x1x6144 (m ((c : Thread nD τ).loc main_arg3) : FVec Ideal S16x6144 .f32) shapeCasts_S16x6144_S16x1x6144 := rfl
theorem entry2 : (V m c main_v2 : FVec Ideal S512x1024 .bf16) = extractStridedSlice S512x1024 ![0, 0] (m ((c : Thread nD τ).loc main_arg4) : FVec Ideal S1024x1024 .f32) slices_S1024x1024_S512x1024_0_0 := rfl
theorem entry4 : (V m c main_v4 : FVec Ideal S512x1024 .bf16) = extractStridedSlice S512x1024 ![512, 0] (m ((c : Thread nD τ).loc main_arg4) : FVec Ideal S1024x1024 .f32) slices_S1024x1024_S512x1024_512_0 := rfl
theorem entry5 : (V m c main_v5 : FVec Ideal S1x1024 .f32) = shapeCast S1x1024 (m ((c : Thread nD τ).loc main_arg5) : FVec Ideal S1024 .f32) shapeCasts_S1024_S1x1024 := rfl
theorem entry6 : (V m c main_v6 : FVec Ideal S1x1024 .f32) = shapeCast S1x1024 (m ((c : Thread nD τ).loc main_arg6) : FVec Ideal S1024 .f32) shapeCasts_S1024_S1x1024 := rfl

theorem cast0 (X : FVec Ideal S16x6144 .f32) (r : Fin 16) (d : Fin 6144) : shapeCast S16x1x6144 X shapeCasts_S16x6144_S16x1x6144 (ix3 r 0 d) = X (ix2 r d) := by
  pointwise

theorem upper (X : FVec Ideal S1024x1024 .f32) (j : Fin 512) (d : Fin 1024) :
    extractStridedSlice S512x1024 ![0, 0] X slices_S1024x1024_S512x1024_0_0 (ix2 j d) = X (ix2 ⟨j.val, by omega⟩ d) := by
  pointwise

theorem lower (X : FVec Ideal S1024x1024 .f32) (j : Fin 512) (d : Fin 1024) :
    extractStridedSlice S512x1024 ![512, 0] X slices_S1024x1024_S512x1024_512_0 (ix2 j d) = X (ix2 ⟨512 + j.val, by omega⟩ d) := by
  pointwise

theorem iblk2 (j : Fin 512) (d : Fin 1024) : (iblk m c 2 t : FVec Ideal S512x1024 .bf16) (ix2 j d)
    = (m ((c : Thread nD τ).loc main_arg4) : FVec Ideal S1024x1024 .f32) (ix2 ⟨j.val, by omega⟩ d) := by
  have h : (iblk m c 2 t : FVec Ideal S512x1024 .bf16) (ix2 j d) = (V m c main_v2 : FVec Ideal S512x1024 .bf16) (ix2 j d) := by
    blk_ext [iblk, index2 t]
  rw [h, entry2]
  exact upper _ _ _

theorem iblk3 (j : Fin 512) (d : Fin 1024) : (iblk m c 3 t : FVec Ideal S512x1024 .bf16) (ix2 j d)
    = (m ((c : Thread nD τ).loc main_arg4) : FVec Ideal S1024x1024 .f32) (ix2 ⟨512 + j.val, by omega⟩ d) := by
  have h : (iblk m c 3 t : FVec Ideal S512x1024 .bf16) (ix2 j d) = (V m c main_v4 : FVec Ideal S512x1024 .bf16) (ix2 j d) := by
    blk_ext [iblk, index3 t]
  rw [h, entry4]
  exact lower _ _ _

theorem iblk5 (d : Fin 1024) : (iblk m c 5 t : FVec Ideal S1x1x1024 .f32) (ix3 0 0 d)
    = (m ((c : Thread nD τ).loc main_arg3) : FVec Ideal S16x6144 .f32) (ix2 (mrow t) ⟨2048 + d.val, by omega⟩) := by
  have h : (iblk m c 5 t : FVec Ideal S1x1x1024 .f32) (ix3 0 0 d) = (V m c main_v0 : FVec Ideal S16x1x6144 .f32) (ix3 (mrow t) 0 ⟨2048 + d.val, by omega⟩) := by
    blk_ext [iblk, index5 t, mrow]
  rw [h, entry0]
  exact cast0 _ _ _

theorem iblk6 (d : Fin 1024) : (iblk m c 6 t : FVec Ideal S1x1x1024 .f32) (ix3 0 0 d)
    = (m ((c : Thread nD τ).loc main_arg3) : FVec Ideal S16x6144 .f32) (ix2 (mrow t) ⟨3072 + d.val, by omega⟩) := by
  have h : (iblk m c 6 t : FVec Ideal S1x1x1024 .f32) (ix3 0 0 d) = (V m c main_v0 : FVec Ideal S16x1x6144 .f32) (ix3 (mrow t) 0 ⟨3072 + d.val, by omega⟩) := by
    blk_ext [iblk, index6 t, mrow]
  rw [h, entry0]
  exact cast0 _ _ _

theorem iblk7 (d : Fin 1024) : (iblk m c 7 t : FVec Ideal S1x1x1024 .f32) (ix3 0 0 d)
    = (m ((c : Thread nD τ).loc main_arg3) : FVec Ideal S16x6144 .f32) (ix2 (mrow t) ⟨4096 + d.val, by omega⟩) := by
  have h : (iblk m c 7 t : FVec Ideal S1x1x1024 .f32) (ix3 0 0 d) = (V m c main_v0 : FVec Ideal S16x1x6144 .f32) (ix3 (mrow t) 0 ⟨4096 + d.val, by omega⟩) := by
    blk_ext [iblk, index7 t, mrow]
  rw [h, entry0]
  exact cast0 _ _ _

theorem iblk8 (d : Fin 1024) : (iblk m c 8 t : FVec Ideal S1x1024 .f32) (ix2 0 d) = (m ((c : Thread nD τ).loc main_arg5) : FVec Ideal S1024 .f32) (ix1 d) := by
  have h : (iblk m c 8 t : FVec Ideal S1x1024 .f32) (ix2 0 d) = (V m c main_v5 : FVec Ideal S1x1024 .f32) (ix2 0 d) := by
    blk_ext [iblk, index8 t]
  rw [h, entry5]
  pointwise

theorem iblk9 (d : Fin 1024) : (iblk m c 9 t : FVec Ideal S1x1024 .f32) (ix2 0 d) = (m ((c : Thread nD τ).loc main_arg6) : FVec Ideal S1024 .f32) (ix1 d) := by
  have h : (iblk m c 9 t : FVec Ideal S1x1024 .f32) (ix2 0 d) = (V m c main_v6 : FVec Ideal S1x1024 .f32) (ix2 0 d) := by
    blk_ext [iblk, index9 t]
  rw [h, entry6]
  pointwise

variable (m c t)

/-- The reference's first result on the kernel's arguments. -/
def goal10 : FVec Ideal S16384x1024 .f32 :=
  residualResult (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The reference's second result on the kernel's arguments. -/
def goal11 : FVec Ideal S16384x1024 .bf16 :=
  inputResult (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem mrow_eq (a : Fin 512) : mrow t = ⟨1 + (tok t a).val / 2048, by omega⟩ := Fin.ext (by
  show 1 + t.val / 4 = 1 + (512 * t.val + a.val) / 2048
  omega)

/-- The layer norm of a block's row is the new residual of its token. -/
theorem residual_eq (a : Fin 512) :
    normed (rowOf (iblk m c 0 t) (iblk m c 2 t) (iblk m c 1 t) (iblk m c 3 t) (iblk m c 4 t) (iblk m c 5 t) a)
        (fun k => (iblk m c 8 t : FVec Ideal S1x1024 .f32) (ix2 0 k)) (fun k => (iblk m c 9 t : FVec Ideal S1x1024 .f32) (ix2 0 k))
      = Cert.Reference5Ideal.Out.residual (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (tok t a) := by
  unfold Cert.Reference5Ideal.Out.residual
  congr 1
  · funext k
    unfold mixed rowOf joined
    simp only [iblk0, iblk1, iblk2, iblk3, iblk4, iblk5, mrow_eq t a]
  · funext k
    rw [iblk8]
  · funext k
    rw [iblk9]

/-- A block's body gives its rows of the first result. -/
theorem block10_eq (a : Fin 512) (d : Fin 1024) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 a d)
      = goal10 m c (ix2 (tok t a) d) := by
  rw [out10_apply, residual_eq]
  rfl

/-- A block's body gives its rows of the second result. -/
theorem block11_eq (a : Fin 512) (d : Fin 1024) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 a d)
      = goal11 m c (ix2 (tok t a) d) := by
  rw [out11_apply, residual_eq]
  simp only [iblk6, iblk7, mrow_eq t a]
  rfl

/-- The kernel's first output array at the end of its run. -/
theorem final10 : (dats m 0 c).arrAt 10 cfg0.N = goal10 m c := by
  refine (dats m 0 c).arrAt_eq_of_covers 10 _ (by decide +kernel) fun t hf y => ?_
  obtain ⟨a, d, rfl⟩ : ∃ (a : Fin 512) (d : Fin 1024), y = ix2 a d := ⟨y 0, y 1, by ext k; fin_cases k <;> rfl⟩
  blk_simp
  rw [after0_10]
  have e : (win0_10.blk t).view.emb (ix2 a d) = ix2 (tok t a) d := by
    blk_ext [index10 t, tok]
  rw [e]
  exact block10_eq m c t a d

/-- The kernel's second output array at the end of its run. -/
theorem final11 : (dats m 0 c).arrAt 11 cfg0.N = goal11 m c := by
  refine (dats m 0 c).arrAt_eq_of_covers 11 _ (by decide +kernel) fun t hf y => ?_
  obtain ⟨a, d, rfl⟩ : ∃ (a : Fin 512) (d : Fin 1024), y = ix2 a d := ⟨y 0, y 1, by ext k; fin_cases k <;> rfl⟩
  blk_simp
  rw [after0_11]
  have e : (win0_11.blk t).view.emb (ix2 a d) = ix2 (tok t a) d := by
    blk_ext [index11 t, tok]
  rw [e]
  exact block11_eq m c t a d

end Cert.Kernel5Ideal.Out

end
-- ==== Proof.OutAlgebraic.lean ====
/- The claims about the first layer's output projection. -/
module

public import proofs.«01_k».proof.Defs
public import proofs.«01_k».proof.Proof.Gen.Kernel5.Frame
public import proofs.«01_k».proof.Proof.Gen.Reference5Ideal.Run
public import proofs.«01_k».proof.Proof.OutValue
public import Idealize.ShloMosaic.Adequacy

@[expose] public section

set_option maxRecDepth 16384

noncomputable section

namespace Cert.Proof

open Idealize.ShloMosaic Idealize.SL.Sem

theorem frame_Kernel5 : Cert.quiescent_Kernel5 := fun m ρ _ => Cert.Kernel5.Gen.frame m ρ

theorem frame_Kernel5Ideal : Cert.quiescent_Kernel5Ideal := fun m ρ _ => Cert.Kernel5Ideal.Gen.frame m ρ

theorem frame_Reference5Ideal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic5 : Cert.algebraic_Kernel5Ideal_Reference5Ideal := by
  intro m g m' g' hpre hagree
  refine ⟨fun c => (Cert.Kernel5Ideal.Gen.dats m 0 c).arrAt 10 Cert.Kernel5Ideal.cfg0.N, fun c => (Cert.Kernel5Ideal.Gen.dats m 0 c).arrAt 11 Cert.Kernel5Ideal.cfg0.N,
    Cert.Kernel5Ideal.Value.run_blocks m g, ?_⟩
  refine (θ_run Cert.Reference5Ideal.defs _ _).mono (fun r h c => ⟨(h c).1.trans ?_, (h c).2.1.trans ?_, (h c).2.2⟩) (Cert.Reference5Ideal.Value.run (F := Ideal) m' g')
  · obtain ⟨a0, a1, a2, a3, a4, a5, a6⟩ := hagree c
    refine Eq.trans ?_ (Cert.Kernel5Ideal.Out.final10 m c).symm
    refine (Cert.Reference5Ideal.Read.val_main_v46_eq (F := Ideal) m' c).trans ?_
    refine (Cert.Reference5Ideal.Out.first_eq _ _ _ _ _ _ _).trans ?_
    rw [a0, a1, a2, a3, a4, a5, a6]
    rfl
  · obtain ⟨a0, a1, a2, a3, a4, a5, a6⟩ := hagree c
    refine Eq.trans ?_ (Cert.Kernel5Ideal.Out.final11 m c).symm
    refine (Cert.Reference5Ideal.Read.val_main_v48_eq (F := Ideal) m' c).trans ?_
    refine (Cert.Reference5Ideal.Out.second_eq _ _ _ _ _ _ _).trans ?_
    rw [a0, a1, a2, a3, a4, a5, a6]
    rfl

end Cert.Proof

end
-- ==== Proof.lean ====
/- The certificate: the frames, and the expert layer, the dense feed-forward part, the two input projections and the first layer's output projection equal to their references. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_gate_nonneg
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_mm1_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_mm0_finite
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.MoeSame
public import proofs.«01_k».proof.Proof.MoeAlgebraic
public import proofs.«01_k».proof.Proof.FfnAlgebraic
public import proofs.«01_k».proof.Proof.ProjAlgebraic
public import proofs.«01_k».proof.Proof.GateAlgebraic
public import proofs.«01_k».proof.Proof.OutAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_gate_nonneg.Gen.facts, Cert.Pre_mm1_finite.Gen.facts, Cert.Pre_mm0_finite.Gen.facts,
  frame_Kernel, frame_KernelIdeal, fun m ρ _ => frame_KernelIdeal m ρ trivial, frame_ReferenceIdeal, fun m ρ _ => frame_ReferenceIdeal m ρ trivial,
  frame_Kernel2, frame_Kernel2Ideal, frame_Reference2Ideal,
  frame_Kernel3, frame_Kernel3Ideal, fun m ρ _ => frame_Kernel3Ideal m ρ trivial, frame_Reference3Ideal, fun m ρ _ => frame_Reference3Ideal m ρ trivial,
  frame_Kernel4, frame_Kernel4Ideal, fun m ρ _ => frame_Kernel4Ideal m ρ trivial, frame_Reference4Ideal, fun m ρ _ => frame_Reference4Ideal m ρ trivial,
  frame_Kernel5, frame_Kernel5Ideal, frame_Reference5Ideal,
  trivial, algebraic, trivial, algebraic2, trivial, algebraic3, trivial, algebraic4, trivial, algebraic5⟩

end Cert.Proof

end
